-- ==== Defs.lean ====
def Pre_Kernel (m : (ℓ : Loc Cert.Kernel.nD Cert.Kernel.τ Cert.Kernel.sig) → Buf (Elt Bits) ℓ) : Prop :=
  True

def Pre_Kernel_full_payload_nans_fit [hPre_full_payload_nans_fit : Cert.Pre_full_payload_nans_fit.Facts] (m : (ℓ : Loc Cert.Kernel.nD Cert.Kernel.τ Cert.Kernel.sig) → Buf (Elt Bits) ℓ) : Prop :=
  ∀ c : Dev Cert.Kernel.nD,
    (Cert.Pre_full_payload_nans_fit.fn (F := Bits) (m ((c.tc : Thread Cert.Kernel.nD Cert.Kernel.τ).loc Cert.Kernel.main_arg0))) = (fun _ => 1#1)

def Pre_Reference (m : (ℓ : Loc Cert.Reference.nD Cert.Reference.τ Cert.Reference.sig) → Buf (Elt Bits) ℓ) : Prop :=
  True

def Pre_Reference_full_payload_nans_fit [hPre_full_payload_nans_fit : Cert.Pre_full_payload_nans_fit.Facts] (m : (ℓ : Loc Cert.Reference.nD Cert.Reference.τ Cert.Reference.sig) → Buf (Elt Bits) ℓ) : Prop :=
  ∀ c : Dev Cert.Reference.nD,
    (Cert.Pre_full_payload_nans_fit.fn (F := Bits) (m ((c.tc : Thread Cert.Reference.nD Cert.Reference.τ).loc Cert.Reference.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_full_payload_nans_fit [hKernel : Cert.Kernel.Facts] [hPre_full_payload_nans_fit : Cert.Pre_full_payload_nans_fit.Facts] : Prop :=
  ∀ (m : (ℓ : Loc Cert.Kernel.nD Cert.Kernel.τ Cert.Kernel.sig) → Buf (Elt Bits) ℓ) (g : Dev Cert.Kernel.nD → PrngReg), Pre_Kernel_full_payload_nans_fit m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Reference_pre_full_payload_nans_fit [hReference : Cert.Reference.Facts] [hPre_full_payload_nans_fit : Cert.Pre_full_payload_nans_fit.Facts] : Prop :=
  ∀ (m : (ℓ : Loc Cert.Reference.nD Cert.Reference.τ Cert.Reference.sig) → Buf (Elt Bits) ℓ) (g : Dev Cert.Reference.nD → PrngReg), Pre_Reference_full_payload_nans_fit m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def bitexact_Kernel_Reference_pre_full_payload_nans_fit [hKernel : Cert.Kernel.Facts] [hReference : Cert.Reference.Facts] [hPre_full_payload_nans_fit : Cert.Pre_full_payload_nans_fit.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_full_payload_nans_fit m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v19) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts) (hPre_full_payload_nans_fit : Cert.Pre_full_payload_nans_fit.Facts),
    quiescent_Kernel (hKernel := hKernel)
    ∧ quiescent_Kernel_pre_full_payload_nans_fit (hKernel := hKernel) (hPre_full_payload_nans_fit := hPre_full_payload_nans_fit)
    ∧ quiescent_Reference (hReference := hReference)
    ∧ quiescent_Reference_pre_full_payload_nans_fit (hReference := hReference) (hPre_full_payload_nans_fit := hPre_full_payload_nans_fit)
    ∧ bitexact_Kernel_Reference_pre_full_payload_nans_fit (hKernel := hKernel) (hReference := hReference) (hPre_full_payload_nans_fit := hPre_full_payload_nans_fit)
-- ==== Pre_full_payload_nans_fit.lean ====
abbrev S128x32768 : Shape := ⟨2, ![128, 32768]⟩
abbrev S_ : Shape := ⟨0, ![]⟩
abbrev S128 : Shape := ⟨1, ![128]⟩

class Facts : Prop where
  bcast_S_S128x32768 : S_.BroadcastsInDim S128x32768 (![] : Fin 0 → Fin S128x32768.rank)
  natLt_1_32 : 1 < 32
  reducesTo_S128x32768_S128_d1 : S128x32768.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [BitOps F] (main_arg0 : FVec F S128x32768 .f32) : IVec S_ 1 :=
  let main_v0 : IVec S128x32768 32 := bitcastToInt main_arg0
  let main_c : IVec S_ 32 := constantI S_ 32 2147483647#32
  let main_v1 : IVec S128x32768 32 := broadcastInDim S128x32768 ![] bcast_S_S128x32768 main_c
  let main_v2 : IVec S128x32768 32 := andi main_v0 main_v1
  let main_c_0 : IVec S_ 32 := constantI S_ 32 2147483647#32
  let main_v3 : IVec S128x32768 32 := broadcastInDim S128x32768 ![] bcast_S_S128x32768 main_c_0
  let main_v4 : IVec S128x32768 1 := cmpi .eq main_v2 main_v3
  let main_v5 : IVec S128x32768 32 := (extui 32 · natLt_1_32) main_v4
  let main_c_1 : IVec S_ 32 := constantI S_ 32 0#32
  let main_v6 : IVec S128 32 := (fun x v => Host.reduce IntOp.addi x v reducesTo_S128x32768_S128_d1 h_S_) main_v5 main_c_1
  let main_c_2 : IVec S_ 32 := constantI S_ 32 64#32
  let main_v7 : IVec S128 32 := broadcastInDim S128 ![] bcast_S_S128 main_c_2
  let main_v8 : IVec S128 1 := cmpi .slt main_v6 main_v7
  let main_c_3 : IVec S_ 1 := constantI S_ 1 1#1
  let main_v9 : IVec S_ 1 := (fun x v => Host.reduce IntOp.andi x v reducesTo_S128_S_d0 h_S_) main_v8 main_c_3
  main_v9
-- ==== Kernel.lean ====
abbrev S128x32768 : Shape := ⟨2, ![128, 32768]⟩
abbrev S32x32768 : Shape := ⟨2, ![32, 32768]⟩
abbrev S32x256x128 : Shape := ⟨3, ![32, 256, 128]⟩
abbrev S32x128 : Shape := ⟨2, ![32, 128]⟩
abbrev S32 : Shape := ⟨1, ![32]⟩
abbrev S32x1 : Shape := ⟨2, ![32, 1]⟩
abbrev S1x32x1 : Shape := ⟨3, ![1, 32, 1]⟩
abbrev S1 : Shape := ⟨1, ![1]⟩
abbrev S1x1x1 : Shape := ⟨3, ![1, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S128x32768 : Shape := ⟨2, ![128, 32768]⟩
abbrev S128x64 : Shape := ⟨2, ![128, 64]⟩
abbrev S_ : Shape := ⟨0, ![]⟩
abbrev S128x64x1 : Shape := ⟨3, ![128, 64, 1]⟩
abbrev S1 : Shape := ⟨1, ![1]⟩
abbrev S1x1x1 : Shape := ⟨3, ![1, 1, 1]⟩
abbrev S128 : Shape := ⟨1, ![128]⟩
abbrev S128x1 : Shape := ⟨2, ![128, 1]⟩
abbrev S128x64x2 : Shape := ⟨3, ![128, 64, 2]⟩

abbrev nBuf : Space → Nat
  | .hbm => 49
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S128x64, .f32⟩
  | .hbm, ⟨3, _⟩ => ⟨S128x64, .i32⟩
  | .hbm, ⟨4, _⟩ => ⟨S_, .i32⟩
  | .hbm, ⟨5, _⟩ => ⟨S128x64, .i32⟩
  | .hbm, ⟨6, _⟩ => ⟨S128x64, .i1⟩
  | .hbm, ⟨7, _⟩ => ⟨S_, .i32⟩
  | .hbm, ⟨8, _⟩ => ⟨S128x64, .i32⟩
  | .hbm, ⟨9, _⟩ => ⟨S128x64, .i32⟩
  | .hbm, ⟨10, _⟩ => ⟨S128x64, .i32⟩
  | .hbm, ⟨11, _⟩ => ⟨S128x64x1, .i32⟩
  | .hbm, ⟨12, _⟩ => ⟨S1, .i32⟩
  | .hbm, ⟨13, _⟩ => ⟨S_, .i32⟩
  | .hbm, ⟨14, _⟩ => ⟨S128x64x1, .i32⟩
  | .hbm, ⟨15, _⟩ => ⟨S128x64x1, .i1⟩
  | .hbm, ⟨16, _⟩ => ⟨S1x1x1, .i32⟩
  | .hbm, ⟨17, _⟩ => ⟨S128x64x1, .i32⟩
  | .hbm, ⟨18, _⟩ => ⟨S128x64x1, .i1⟩
  | .hbm, ⟨19, _⟩ => ⟨S128x64x1, .i1⟩
  | .hbm, ⟨20, _⟩ => ⟨S_, .i1⟩
  | .hbm, ⟨21, _⟩ => ⟨S128x64, .i1⟩
  | .hbm, ⟨22, _⟩ => ⟨S128x64, .f32⟩
  | .hbm, ⟨23, _⟩ => ⟨S_, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x32768, .f32⟩
  | .hbm, ⟨28, _⟩ => ⟨S128, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i1⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x1, .i32⟩
  | .hbm, ⟨37, _⟩ => ⟨S_, .i32⟩
  | .hbm, ⟨38, _⟩ => ⟨S128x64, .i32⟩
  | .hbm, ⟨39, _⟩ => ⟨S128x64, .i1⟩
  | .hbm, ⟨40, _⟩ => ⟨S_, .i32⟩
  | .hbm, ⟨41, _⟩ => ⟨S128x64, .i32⟩
  | .hbm, ⟨42, _⟩ => ⟨S128x64, .i32⟩
  | .hbm, ⟨43, _⟩ => ⟨S128x64, .i32⟩
  | .hbm, ⟨44, _⟩ => ⟨S128x64, .i32⟩
  | .hbm, ⟨45, _⟩ => ⟨S128x64x1, .i32⟩
  | .hbm, ⟨46, _⟩ => ⟨S128x64x1, .i32⟩
  | .hbm, ⟨47, _⟩ => ⟨S128x64x2, .i32⟩
  | .hbm, ⟨48, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_c : Ref sig .tc := ⟨.hbm, 30, rfl⟩
abbrev main_v5 : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== Proof.Block.lean ====
/-
  What one call of the kernel computes on its block of 32 rows, as a function of the block.

  The kernel's two searches are unrolled in the program. Here each is an iterated step: `vstep` halves an interval of
  thresholds, `tstep` halves an interval of column indices. Each part of the program is shown to be the matching number
  of steps, and `body_eq` says that the whole body loads its input block, and stores `blockOut` of it.
-/
module

public import proofs.«01_k».proof.Proof.Gen.Kernel.Skeleton
public import Idealize.ShloMosaic.Lib.Tactic

@[expose] public section

noncomputable section

namespace Cert.Proof

open Cert.Kernel Cert.Kernel.Gen
open Idealize.ShloMosaic Idealize.SL.Sem

variable {F : FTy → Type} [BitOps F]

/-- One word for each of the block's rows. -/
abbrev Col := IVec S32x1 32
/-- One bit for each element of the block. -/
abbrev Mask := IVec S32x32768 1

/-- The middle of the interval from `lo` to `hi`, in each row. -/
def mid (s : Col × Col) : Col := addi s.1 (shrsi (subi s.2 s.1) (broadcast S32x1 1#32))

/-- How many elements of each row a mask selects. -/
def count (p : Mask) : Col :=
  shapeCast S32x1 (multiReductionI .add [1] S32 (extui 32 p natLt_1_32) 0#32 reduces_S32x32768_S32 rfl) shapeCasts_S32_S32x1

/-- The elements that are at least the row's threshold `v`. -/
def atLeast (b : IVec S32x32768 32) (v : Col) : Mask := cmpi .sge b (broadcastTo S32x32768 v broadcasts_S32x1_S32x32768)

/-- Whether at least 64 elements of the row reach the threshold `v`. -/
def full (b : IVec S32x32768 32) (v : Col) : IVec S32x1 1 := cmpi .sge (count (atLeast b v)) (broadcast S32x1 64#32)

/-- One step of the search for the threshold: the half of the interval that keeps at least 64 elements above its start. -/
def vstep (b : IVec S32x32768 32) (s : Col × Col) : Col × Col :=
  (select (full b (mid s)) (mid s) s.1, select (full b (mid s)) s.2 (mid s))

/-- The elements of a mask whose column is before the row's cut `v`. -/
def before (eq : Mask) (idx : IVec S32x32768 32) (v : Col) : Mask :=
  andi eq (cmpi .slt idx (broadcastTo S32x32768 v broadcasts_S32x1_S32x32768))

/-- Whether the mask selects at least `need` elements of the row before the cut `v`. -/
def enough (eq : Mask) (need : Col) (idx : IVec S32x32768 32) (v : Col) : IVec S32x1 1 := cmpi .sge (count (before eq idx v)) need

/-- One step of the search for the cut: the half of the interval of columns in which the count reaches `need`. -/
def tstep (eq : Mask) (need : Col) (idx : IVec S32x32768 32) (s : Col × Col) : Col × Col :=
  (select (enough eq need idx (mid s)) s.1 (mid s), select (enough eq need idx (mid s)) (mid s) s.2)

/-- The interval at which the search for the threshold starts. -/
def start (v0 : Vec F S32x32768 .f32) : Col × Col := (k0_pay85 v0, k0_pay86 v0)

/-- Whether a bit is set in some row, as the program computes it: a float maximum of ones and zeros, compared with zero. -/
def someRow (F : FTy → Type) [BitOps F] (p : IVec S32x1 1) : BitVec 1 :=
  Scalar.cmpi .ne (Scalar.extui (Scalar.cmpf .ogt
    (k0_pay1 (shapeCast S1x32x1 (select p (broadcast S32x1 (Scalar.ofBits (F := F) .f32 0x3F800000#32))
      (broadcast S32x1 (Scalar.ofBits .f32 0x00000000#32))) shapeCasts_S32x1_S1x32x1)) (Scalar.ofBits .f32 0x00000000#32)) : BitVec 32) 0#32

/-- The interval after the search's first 24 steps. -/
def mid24 (v0 : Vec F S32x32768 .f32) : Col × Col := (vstep (k0_pay83 v0))^[24] (start v0)

/-- The threshold found: 24 steps, and 7 more if an interval is still wider than one. -/
def thr (v0 : Vec F S32x32768 .f32) : Col :=
  if someRow F (cmpi .sgt (subi (mid24 v0).2 (mid24 v0).1) (broadcast S32x1 1#32)) = 1#1
  then ((vstep (k0_pay83 v0))^[7] (mid24 v0)).1 else (mid24 v0).1

/-- The columns' indices. -/
def cols : IVec S32x32768 32 := iota .tc S32x32768 32 [1] iota_S32x32768_d1_w32

/-- The elements above the threshold, those equal to it, and how many of the latter are to be kept. -/
def above (v0 : Vec F S32x32768 .f32) : Mask := k0_pay187 (k0_pay83 v0) (thr v0)
def ties (v0 : Vec F S32x32768 .f32) : Mask := k0_pay188 (k0_pay83 v0) (thr v0)
def need (v0 : Vec F S32x32768 .f32) : Col := subi (broadcast S32x1 64#32) (count (above v0))

/-- The interval of all columns. -/
def allCols : Col × Col := (broadcast S32x1 0#32, broadcast S32x1 32768#32)

/-- The cut: the column before which a tied element is kept. -/
def cut (v0 : Vec F S32x32768 .f32) : Col :=
  if someRow F (cmpi .sgt (count (ties v0)) (need v0)) = 1#1
  then ((tstep (ties v0) (need v0) cols)^[15] allCols).2 else broadcast S32x1 32768#32

/-- What the body stores. -/
def blockOut (v0 : Vec F S32x32768 .f32) : Vec F S32x32768 .f32 := k0_pay4 v0 (above v0) (ties v0) cols (cut v0)

section parts
variable (i : grid0.Coords) (arg1 : Memref sig .tc .vmem S32x32768 .f32) (harg1 : arg1.IsWhole)
  (arg2 : Memref sig .tc .vmem S32x32768 .f32) (harg2 : arg2.IsWhole)
  (b : IVec S32x32768 32) (s : Col × Col) (eq : Mask) (n : Col) (idx : IVec S32x32768 32)

attribute [local simp] vstep tstep full count atLeast before enough mid

/-- The program's parts, each as the steps it takes of one of the searches. -/
theorem part8_eq : k0_part8 (F := F) i arg1 harg1 arg2 harg2 b s.1 s.2 (mid s) (full b (mid s))
    = pure ⟨((vstep b)^[4] s).1, ((vstep b)^[4] s).2, mid ((vstep b)^[4] s),
        broadcastTo S32x32768 (mid ((vstep b)^[4] s)) broadcasts_S32x1_S32x32768⟩ := by
  simp [k0_part8_eq_skeleton, k0_part8_skel, k0_pay93, k0_pay94, k0_pay95, k0_pay96, k0_pay97, k0_pay98, k0_pay99, k0_pay100, k0_pay101, k0_pay102, k0_pay103,
    k0_pay104, k0_pay105, k0_pay106, k0_pay107, k0_pay108]

theorem part9_eq : k0_part9 (F := F) i arg1 harg1 arg2 harg2 b s.1 s.2 (mid s) (broadcastTo S32x32768 (mid s) broadcasts_S32x1_S32x32768)
    = pure ⟨((vstep b)^[3] s).2, mid ((vstep b)^[3] s), full b (mid ((vstep b)^[3] s)), (vstep b ((vstep b)^[3] s)).1⟩ := by
  simp [k0_part9_eq_skeleton, k0_part9_skel, k0_pay109, k0_pay110, k0_pay111, k0_pay112, k0_pay113, k0_pay114, k0_pay115, k0_pay116, k0_pay117, k0_pay118,
    k0_pay119, k0_pay120, k0_pay121, k0_pay122]

theorem part10_eq : k0_part10 (F := F) i arg1 harg1 arg2 harg2 b s.2 (mid s) (full b (mid s)) (vstep b s).1
    = pure ⟨((vstep b)^[4] s).1, ((vstep b)^[4] s).2, mid ((vstep b)^[4] s), atLeast b (mid ((vstep b)^[4] s))⟩ := by
  simp [k0_part10_eq_skeleton, k0_part10_skel, k0_pay123, k0_pay124, k0_pay125, k0_pay126, k0_pay127, k0_pay128, k0_pay129, k0_pay130, k0_pay131, k0_pay132,
    k0_pay133, k0_pay134, k0_pay135, k0_pay136, k0_pay137]

theorem part11_eq : k0_part11 (F := F) i arg1 harg1 arg2 harg2 b s.1 s.2 (mid s) (atLeast b (mid s))
    = pure ⟨((vstep b)^[4] s).1, ((vstep b)^[4] s).2⟩ := by
  simp [k0_part11_eq_skeleton, k0_part11_skel, k0_pay138, k0_pay139, k0_pay140, k0_pay141, k0_pay142, k0_pay143, k0_pay144, k0_pay145, k0_pay146, k0_pay147,
    k0_pay148, k0_pay149, k0_pay150, k0_pay151, k0_pay152]

theorem part12_eq : k0_part12 (F := F) i arg1 harg1 arg2 harg2 b s.1 s.2
    = pure ⟨((vstep b)^[3] s).1, ((vstep b)^[3] s).2, mid ((vstep b)^[3] s), extui 32 (atLeast b (mid ((vstep b)^[3] s))) natLt_1_32⟩ := by
  simp [k0_part12_eq_skeleton, k0_part12_skel, k0_pay153, k0_pay154, k0_pay155, k0_pay156, k0_pay157, k0_pay158, k0_pay159, k0_pay160, k0_pay161, k0_pay162,
    k0_pay163, k0_pay164, k0_pay165, k0_pay166]

theorem part13_eq : k0_part13 (F := F) i arg1 harg1 arg2 harg2 b s.1 s.2 (mid s) (extui 32 (atLeast b (mid s)) natLt_1_32)
    = pure ⟨((vstep b)^[4] s).1, ((vstep b)^[4] s).2⟩ := by
  simp [k0_part13_eq_skeleton, k0_part13_skel, k0_pay167, k0_pay168, k0_pay169, k0_pay170, k0_pay171, k0_pay172, k0_pay173, k0_pay174, k0_pay175, k0_pay176,
    k0_pay177, k0_pay178, k0_pay179, k0_pay180, k0_pay181]

theorem part2_eq : k0_part2 (F := F) i arg1 harg1 arg2 harg2 b s.1 s.2 = pure ((vstep b)^[7] s).1 := by
  simp [k0_part2_eq_skeleton, k0_part2_skel, k0_part1_eq_skeleton, k0_part1_skel, k0_pay5, k0_pay6, k0_pay7, k0_pay8, k0_pay9, k0_pay10, k0_pay11, k0_pay12, k0_pay13, k0_pay14, k0_pay15, k0_pay16,
    k0_pay17, k0_pay18, k0_pay19]

theorem part3_eq : k0_part3 (F := F) i arg1 harg1 arg2 harg2 eq n idx
    = pure ⟨((tstep eq n idx)^[3] allCols).1, ((tstep eq n idx)^[3] allCols).2, mid ((tstep eq n idx)^[3] allCols),
        cmpi .slt idx (broadcastTo S32x32768 (mid ((tstep eq n idx)^[3] allCols)) broadcasts_S32x1_S32x32768)⟩ := by
  simp [k0_part3_eq_skeleton, k0_part3_skel, allCols, k0_pay20, k0_pay21, k0_pay22, k0_pay23, k0_pay24, k0_pay25, k0_pay26, k0_pay27, k0_pay28, k0_pay29, k0_pay30,
    k0_pay31, k0_pay32, k0_pay33, k0_pay34, k0_pay35]

theorem part4_eq : k0_part4 (F := F) i arg1 harg1 arg2 harg2 eq n idx s.1 s.2 (mid s) (cmpi .slt idx (broadcastTo S32x32768 (mid s) broadcasts_S32x1_S32x32768))
    = pure ⟨((tstep eq n idx)^[4] s).1, ((tstep eq n idx)^[4] s).2, subi ((tstep eq n idx)^[4] s).2 ((tstep eq n idx)^[4] s).1, broadcast S32x1 1#32⟩ := by
  simp [k0_part4_eq_skeleton, k0_part4_skel, k0_pay36, k0_pay37, k0_pay38, k0_pay39, k0_pay40, k0_pay41, k0_pay42, k0_pay43, k0_pay44, k0_pay45, k0_pay46,
    k0_pay47, k0_pay48, k0_pay49, k0_pay50, k0_pay51, k0_pay52]

theorem part5_eq : k0_part5 (F := F) i arg1 harg1 arg2 harg2 eq n idx s.1 s.2 (subi s.2 s.1) (broadcast S32x1 1#32)
    = pure ⟨((tstep eq n idx)^[4] s).1, ((tstep eq n idx)^[4] s).2⟩ := by
  simp [k0_part5_eq_skeleton, k0_part5_skel, k0_pay53, k0_pay54, k0_pay55, k0_pay56, k0_pay57, k0_pay58, k0_pay59, k0_pay60, k0_pay61, k0_pay62, k0_pay63,
    k0_pay64, k0_pay65, k0_pay66, k0_pay67, k0_pay68]

theorem part6_eq : k0_part6 (F := F) i arg1 harg1 arg2 harg2 eq n idx s.1 s.2
    = pure ⟨((tstep eq n idx)^[3] s).1, ((tstep eq n idx)^[3] s).2, mid ((tstep eq n idx)^[3] s),
        multiReductionI .add [1] S32 (extui 32 (before eq idx (mid ((tstep eq n idx)^[3] s))) natLt_1_32) 0#32 reduces_S32x32768_S32 rfl⟩ := by
  simp [k0_part6_eq_skeleton, k0_part6_skel, k0_pay69, k0_pay70, k0_pay71, k0_pay72, k0_pay73, k0_pay74, k0_pay75, k0_pay76, k0_pay77, k0_pay78, k0_pay79,
    k0_pay80, k0_pay81, k0_pay82]

theorem last_tstep : k0_pay2 n s.2 (mid s)
      (multiReductionI .add [1] S32 (extui 32 (before eq idx (mid s)) natLt_1_32) 0#32 reduces_S32x32768_S32 rfl)
    = (tstep eq n idx s).2 := by
  simp [k0_pay2]

theorem part14_eq (v0 : Vec F S32x32768 .f32) (h : vstep (k0_pay83 v0) s = mid24 v0) :
    k0_part14 (F := F) i arg1 harg1 arg2 harg2 (k0_pay83 v0) s.1 s.2
    = pure ⟨above v0, ties v0, need v0, cols, k0_pay190 (k0_pay83 v0) (thr v0)⟩ := by
  have h1 : k0_pay184 (k0_pay83 v0) s.1 s.2 = (mid24 v0).1 := by rw [← h]; simp [k0_pay184, k0_pay183, k0_pay182]
  have h2 : k0_pay185 (k0_pay83 v0) s.1 s.2 = (mid24 v0).2 := by rw [← h]; simp [k0_pay185, k0_pay183, k0_pay182]
  rw [k0_part14_eq_skeleton, k0_part14_skel]
  simp only [h1, h2, part2_eq, pure_bind]
  rw [show k0_pay186 (F := F) (k0_pay83 v0) s.1 s.2 = k0_pay1 (shapeCast S1x32x1 (select
      (cmpi .sgt (subi (mid24 v0).2 (mid24 v0).1) (broadcast S32x1 1#32)) (broadcast S32x1 (Scalar.ofBits (F := F) .f32 0x3F800000#32))
      (broadcast S32x1 (Scalar.ofBits .f32 0x00000000#32))) shapeCasts_S32x1_S1x32x1) by
    unfold k0_pay186 k0_pay1; rw [h1, h2]]
  by_cases hc : someRow F (cmpi .sgt (subi (mid24 v0).2 (mid24 v0).1) (broadcast S32x1 1#32)) = 1#1
  · rw [above, ties, need, above, thr, if_pos hc]
    exact (if_pos hc).trans (by simp [k0_pay189, k0_pay187, cols])
  · rw [above, ties, need, above, thr, if_neg hc]
    exact (if_neg hc).trans (by simp [k0_pay189, k0_pay187, cols])

/-- The kernel's body: it loads its input block `v0` and stores `blockOut v0`. -/
theorem body_eq : cc0__abs_topk_block (F := F) i arg1 harg1 arg2 harg2 = (do
    let v0 : Vec F S32x32768 .f32 ← Prog.lift (.load arg1 (Rect.unit (s := S32x32768) ![0, 0] S32x32768.size inb_S32x32768_S32x32768_0_0).toLoadRect (View.loadsAt_vmem h_S32x32768))
    let _ : Vec F S32x32768 .f32 ← Prog.lift (.load arg2 (Rect.unit (s := S32x32768) ![0, 0] S32x32768.size inb_S32x32768_S32x32768_0_0).toLoadRect (View.loadsAt_vmem h_S32x32768))
    Prog.lift (.store arg2 (Rect.unit (s := S32x32768) ![0, 0] S32x32768.size inb_S32x32768_S32x32768_0_0) (blockOut v0) Finset.univ (View.stores_vmem_bits_univ h_S32x32768 rfl) (.inl rfl))
    pure ⟨⟩) := by
  have h7 (v0 : Vec F S32x32768 .f32) : (⟨v0, k0_pay83 v0, k0_pay89 v0, k0_pay90 v0, k0_pay91 v0, k0_pay92 v0⟩ :
        Σ' (v0 : Vec F S32x32768 .f32) (v3 : IVec S32x32768 32) (v29 : IVec S32x1 32) (v30 : IVec S32x1 32) (v34 : IVec S32x1 32), IVec S32x1 1)
      = ⟨v0, k0_pay83 v0, (vstep (k0_pay83 v0) (start v0)).1, (vstep (k0_pay83 v0) (start v0)).2, mid (vstep (k0_pay83 v0) (start v0)),
          full (k0_pay83 v0) (mid (vstep (k0_pay83 v0) (start v0)))⟩ := by
    simp [start, k0_pay89, k0_pay90, k0_pay91, k0_pay92, k0_pay88, k0_pay87]
  have hi (f : Col × Col → Col × Col) (m n : ℕ) (s : Col × Col) : f^[m] (f^[n] s) = f^[n + m] s := by
    rw [Nat.add_comm, Function.iterate_add_apply]
  rw [cc0__abs_topk_block_eq_skeleton, cc0__abs_topk_block_skel]
  simp only [k0_part7_eq_skeleton, k0_part7_skel, bind_assoc, pure_bind, h7, part8_eq, part9_eq, part10_eq, part11_eq, part12_eq,
    part13_eq, hi]
  refine bind_congr fun v0 => ?_
  rw [part14_eq i arg1 harg1 arg2 harg2 _ v0 (by
    rw [← Function.iterate_succ_apply' (vstep (k0_pay83 v0)), ← Function.iterate_succ_apply (vstep (k0_pay83 v0)), mid24])]
  simp only [pure_bind, part3_eq, part4_eq, part5_eq, part6_eq, hi, last_tstep _ (ties v0) (need v0) cols,
    ← Function.iterate_succ_apply' (tstep (ties v0) (need v0) cols)]
  have hp : k0_pay1 (k0_pay190 (F := F) (k0_pay83 v0) (thr v0)) = k0_pay1 (shapeCast S1x32x1 (select
      (cmpi .sgt (count (ties v0)) (need v0)) (broadcast S32x1 (Scalar.ofBits (F := F) .f32 0x3F800000#32))
      (broadcast S32x1 (Scalar.ofBits .f32 0x00000000#32))) shapeCasts_S32x1_S1x32x1) := by
    simp [k0_pay190, k0_pay189, ties, need, above]
  rw [hp]
  by_cases hc : someRow F (cmpi .sgt (count (ties v0)) (need v0)) = 1#1
  · rw [blockOut, cut, if_pos hc]
    exact if_pos hc
  · rw [blockOut, cut, if_neg hc]
    exact if_neg hc

end parts

end Cert.Proof

end
-- ==== Proof.Run.lean ====
/-
  The kernel's run: at each of the four grid points the body turns the staged block of 32 rows into `blockOut` of it, so
  the run ends with the result array made of those blocks, the argument as it was and every semaphore counter at zero.
-/
module

public import proofs.«01_k».proof.Proof.Block
public import proofs.«01_k».proof.Proof.Gen.Kernel.Frame
public import Idealize.ShloMosaic.Lib.VecWindow

@[expose] public section

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-- The body on whole staging buffers: from the input block `x` and any contents of the result's buffer, it ends with the
    input block as it was and `blockOut x` in the result's buffer. -/
theorem body_run (c : Dev nD) (i : grid0.Coords) (M0 : Memref sig .tc .vmem S32x32768 .f32) (h0 : M0.IsWhole)
    (M1 : Memref sig .tc .vmem S32x32768 .f32) (h1 : M1.IsWhole) (x : Vec F S32x32768 .f32) (E : Set ℕ) (K : PUnit → sProp 𝕄) :
    iprop(owns (c : Thread nD τ) M0 fullShare x ∗ (∃ d, owns (c : Thread nD τ) M1 fullShare d)
        ∗ (iprop(owns (c : Thread nD τ) M0 fullShare x ∗ owns (c : Thread nD τ) M1 fullShare (blockOut x)) -∗ K ⟨⟩))
      ⊢ wp frame (wpE (defs₀ (F := F)) Variants.none c none) E (cc0__abs_topk_block i M0 h0 M1 h1) K := by
  rw [body_eq]
  unfold owns
  iintro ⟨⟨%f0, %e0, H0⟩, ⟨%d1, %f1, -, H1⟩, Hk⟩
  sl_exec!
  sl_step
  iapply Hk
  isplitl [H0]
  · iexists _; isplitr; swap; · iexact H0
    ipureintro; exact e0
  iexists _; isplitr; swap; · iexact H1
  ipureintro
  unfold body_run.sl.H1_1
  rw [View.read_writes_full, View.readAt_full, e0]

variable (m : (ℓ : Loc nD τ sig) → Buf (Elt F) ℓ) (ρ : Dev nD → PrngReg)

/-- The pipeline's data: the arrays as launched, and after the body the input block unchanged and the result's block at
    `blockOut` of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (iblk m c 0 t : Vec F S32x32768 .f32)
  Φ _ := Pipeline.ΦA spec0 c
  q _ := fullShare
  owed _ := 0

theorem after_in (c : Dev nD) (t : Fin cfg0.N) : (dats m 0 c).after 0 t = iblk m c 0 t := by dsimp only [dats]
theorem after_out (c : Dev nD) (t : Fin cfg0.N) : (dats m 0 c).after 1 t = blockOut (iblk m c 0 t : Vec F S32x32768 .f32) := by
  dsimp only [dats]

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  have hin (d) : (dats m 0 c).before 0 t d = iblk m c 0 t := before0_0_of m (dats m 0 c) rfl (after_in m c) t d
  simp only [hin, after_in, after_out]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  iapply (body_run c _ _ _ _ _ (iblk m c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

set_option backward.isDefEq.respectTransparency.types false in
/-- The run: it ends with the arrays at what the pipeline's data say and every semaphore counter at zero. -/
theorem kernel_run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.Proof

end
-- ==== Proof.RowMath.lean ====
/-
  One row, as arithmetic: which 64 positions of a row of numbers the two searches keep.

  A row is a function `b` from positions to numbers. `Kept b j` says that fewer than 64 positions come before `j`, where
  a larger number comes first and, of equal numbers, the smaller position. `kept_iff` says that a threshold and a cut of
  the right counts name just those positions. `VInv` is what the search for the threshold keeps true of its interval and
  `TInv` what the search for the cut does; a step halves the interval in either.
-/
module

public import Mathlib.Data.Fintype.Card
public import Mathlib.Tactic.Linarith
public import Idealize.ShloMosaic.Lib.Tactic

@[expose] public section

namespace Cert.Proof

variable {n : ℕ}

/-- The number of positions with a property. -/
def cnt (P : Fin n → Prop) [DecidablePred P] : ℕ := (Finset.univ.filter P).card

/-- A weaker property has at least as many positions. -/
theorem cnt_mono {P Q : Fin n → Prop} [DecidablePred P] [DecidablePred Q] (h : ∀ i, P i → Q i) : cnt P ≤ cnt Q :=
  Finset.card_le_card fun i hi => by
    rw [Finset.mem_filter] at hi ⊢
    exact ⟨hi.1, h i hi.2⟩

/-- The same property, written another way, has as many. -/
theorem cnt_congr {P Q : Fin n → Prop} [DecidablePred P] [DecidablePred Q] (h : ∀ i, P i ↔ Q i) : cnt P = cnt Q :=
  le_antisymm (cnt_mono fun i => (h i).1) (cnt_mono fun i => (h i).2)

/-- No more positions than there are. -/
theorem cnt_le (P : Fin n → Prop) [DecidablePred P] : cnt P ≤ n := by
  have := Finset.card_filter_le (Finset.univ : Finset (Fin n)) P
  simpa [cnt] using this

/-- Positions with either of two properties that exclude each other. -/
theorem cnt_or {P Q : Fin n → Prop} [DecidablePred P] [DecidablePred Q] (h : ∀ i, P i → ¬ Q i) :
    cnt (fun i => P i ∨ Q i) = cnt P + cnt Q := by
  unfold cnt
  rw [Finset.filter_or, Finset.card_union_of_disjoint]
  exact Finset.disjoint_filter.2 fun i _ hp => h i hp

/-- A position that one property has, and a stronger one does not, makes a difference. -/
theorem cnt_lt {P Q : Fin n → Prop} [DecidablePred P] [DecidablePred Q] (h : ∀ i, P i → Q i) (j : Fin n) (hP : ¬ P j)
    (hQ : Q j) : cnt P < cnt Q := by
  refine Finset.card_lt_card ⟨fun i hi => ?_, fun hs => hP ?_⟩
  · rw [Finset.mem_filter] at hi ⊢
    exact ⟨hi.1, h i hi.2⟩
  · exact (Finset.mem_filter.1 (hs (Finset.mem_filter.2 ⟨Finset.mem_univ j, hQ⟩))).2

/-- Fewer than 64 positions come before `j`: those of larger numbers, and those of its number at smaller positions. -/
def Kept (b : Fin n → ℕ) (j : Fin n) : Prop := cnt (fun i => b j < b i ∨ (b i = b j ∧ i < j)) < 64

instance (b : Fin n → ℕ) (j : Fin n) : Decidable (Kept b j) := inferInstanceAs (Decidable (_ < _))

/-- If the numbers above `t` and the first ones equal to `t`, those below position `c`, are 64 together, they are the kept ones. -/
theorem kept_iff (b : Fin n → ℕ) (t c : ℕ)
    (h : cnt (fun i => t < b i) + cnt (fun i => b i = t ∧ i.val < c) = 64) (j : Fin n) :
    Kept b j ↔ t < b j ∨ (b j = t ∧ j.val < c) := by
  have hS : cnt (fun i => t < b i ∨ (b i = t ∧ i.val < c)) = 64 := by
    rw [cnt_or (fun i h1 h2 => by omega), h]
  constructor
  · intro hk
    by_contra hj
    refine absurd hk (not_lt.2 ?_)
    rw [← hS]
    refine cnt_mono fun i hi => ?_
    rw [Fin.lt_def]
    omega
  · intro hj
    unfold Kept
    rw [← hS]
    refine cnt_lt (fun i hi => ?_) j (by omega) hj
    rw [Fin.lt_def] at hi
    omega

/-- The search for the threshold: at least 64 numbers reach `lo`, fewer reach `hi`, and the interval is no wider than `w`. -/
structure VInv (b : Fin n → ℕ) (w lo hi : ℕ) : Prop where
  low : 64 ≤ cnt (fun i => lo ≤ b i)
  high : cnt (fun i => hi ≤ b i) < 64
  width : hi - lo ≤ w

/-- The interval is not empty. -/
theorem VInv.lt {b : Fin n → ℕ} {w lo hi : ℕ} (h : VInv b w lo hi) : lo < hi := by
  by_contra hle
  have := cnt_mono (P := fun i => lo ≤ b i) (Q := fun i => hi ≤ b i) fun i hi => by omega
  have h1 := h.low
  have h2 := h.high
  omega

/-- A step: the half that still holds the threshold. -/
theorem VInv.step {b : Fin n → ℕ} {w lo hi : ℕ} (h : VInv b (2 * w) lo hi) (hw : 0 < w) :
    (64 ≤ cnt (fun i => lo + (hi - lo) / 2 ≤ b i) → VInv b w (lo + (hi - lo) / 2) hi) ∧
    (¬ 64 ≤ cnt (fun i => lo + (hi - lo) / 2 ≤ b i) → VInv b w lo (lo + (hi - lo) / 2)) := by
  have h1 := h.lt
  have h2 := h.width
  exact ⟨fun hc => ⟨hc, h.high, by omega⟩, fun hc => ⟨h.low, by omega, by omega⟩⟩

/-- The search for the cut among the positions with `E`: fewer than `need` of them lie below `lo`, at least `need` below `hi`. -/
structure TInv (E : Fin n → Prop) [DecidablePred E] (need w lo hi : ℕ) : Prop where
  low : cnt (fun i => E i ∧ i.val < lo) < need
  high : need ≤ cnt (fun i => E i ∧ i.val < hi)
  width : hi - lo ≤ w

/-- The interval is not empty. -/
theorem TInv.lt {E : Fin n → Prop} [DecidablePred E] {need w lo hi : ℕ} (h : TInv E need w lo hi) : lo < hi := by
  by_contra hle
  have := cnt_mono (P := fun i => E i ∧ i.val < hi) (Q := fun i => E i ∧ i.val < lo) fun i hi => ⟨hi.1, by omega⟩
  have h1 := h.low
  have h2 := h.high
  omega

/-- A step: the half that still holds the cut. -/
theorem TInv.step {E : Fin n → Prop} [DecidablePred E] {need w lo hi : ℕ} (h : TInv E need (2 * w) lo hi) (hw : 0 < w) :
    (need ≤ cnt (fun i => E i ∧ i.val < lo + (hi - lo) / 2) → TInv E need w lo (lo + (hi - lo) / 2)) ∧
    (¬ need ≤ cnt (fun i => E i ∧ i.val < lo + (hi - lo) / 2) → TInv E need w (lo + (hi - lo) / 2) hi) := by
  have h1 := h.lt
  have h2 := h.width
  exact ⟨fun hc => ⟨h.low, hc, by omega⟩, fun hc => ⟨by omega, h.high, by omega⟩⟩

/-- At width one, exactly `need` of the positions lie below the upper end. -/
theorem TInv.final {E : Fin n → Prop} [DecidablePred E] {need lo hi : ℕ} (h : TInv E need 1 lo hi) :
    cnt (fun i => E i ∧ i.val < hi) = need := by
  have h1 := h.lt
  have h2 := h.width
  have e : hi = lo + 1 := by omega
  subst e
  have h3 : cnt (fun i => E i ∧ i.val < lo + 1)
      ≤ cnt (fun i => (E i ∧ i.val < lo) ∨ i.val = lo) := cnt_mono fun i hi => by
    rcases Nat.lt_succ_iff_lt_or_eq.1 hi.2 with h | h
    · exact Or.inl ⟨hi.1, h⟩
    · exact Or.inr h
  rw [cnt_or (fun i h1 h2 => by omega)] at h3
  have h4 : cnt (fun i : Fin n => i.val = lo) ≤ 1 := Finset.card_le_one.2 fun i hi j hj => by
    rw [Finset.mem_filter] at hi hj
    exact Fin.ext (hi.2.trans hj.2.symm)
  have := h.low
  have := h.high
  omega

end Cert.Proof
-- ==== Proof.Steps.lean ====
/-
  The kernel's searches read one row at a time: its count is a number of positions, and each step of a search is a step of
  the row's interval.
-/
module

public import proofs.«01_k».proof.Proof.Block
public import proofs.«01_k».proof.Proof.RowMath
public import Idealize.ShloMosaic.Lib.Pointwise
public import Idealize.ShloMosaic.Lib.WordCmp
public import Idealize.ShloMosaic.Lib.IndicatorCount
public import Idealize.ShloMosaic.Lib.ValueLayoutCasts

@[expose] public section

noncomputable section

namespace Cert.Proof

open Cert.Kernel Cert.Kernel.Gen
open Idealize.ShloMosaic hiding ix1 ix2
open Idealize.ShloMosaic.ValueIdx Idealize.ShloMosaic.WordCmp

/-- The numbers in row `r` of a block of words. -/
def nums (b : IVec S32x32768 32) (r : Fin 32) : Fin 32768 → ℕ := fun j => (b (ix2 r j)).toNat

/-- The number in row `r` of a column of words. -/
def at0 (v : Col) (r : Fin 32) : ℕ := (v (ix2 r 0)).toNat

/-- A column spread over the block, read back. -/
theorem spread_at (v : Col) (r : Fin 32) (j : Fin 32768) :
    broadcastTo S32x32768 v broadcasts_S32x1_S32x32768 (ix2 r j) = v (ix2 r 0) :=
  congrArg v (by funext c; fin_cases c <;> rfl)

/-- The indices of row `r`: an inserted column. -/
theorem lift_row (r : Fin 32) (j : Fin 32768) : reduces_S32x32768_S32.lift (ix1 r) j = ix2 r j := by
  funext c
  fin_cases c <;> rfl

/-- The count is the number of positions of the row that the mask selects. -/
theorem count_at (p : Mask) (r : Fin 32) : at0 (count p) r = cnt fun j => p (ix2 r j) = 1#1 := by
  have e : count p (ix2 r 0) = BitVec.ofNat 32 (cnt fun j => p (ix2 r j) = 1#1) := by
    unfold count
    rw [shapeCast_a_a1_apply]
    refine (multiReductionI_eq_fold _ _ _ _ rfl _).trans ((Shape.Reduces.fold_filter_drop_single reduces_S32x32768_S32 IntOp.addi 0#32 (extui 32 p natLt_1_32) (ix1 r)).trans ?_)
    refine Eq.trans ?_ (IndicatorCount.fold_addi_setWidth_eq_card (fun j : Fin 32768 => p (ix2 r j)) Finset.univ)
    congr 1
    funext j
    exact congrArg (fun i => (p i).setWidth 32) (lift_row r j)
  have := cnt_le fun j => p (ix2 r j) = 1#1
  unfold at0
  rw [e, BitVec.toNat_ofNat, Nat.mod_eq_of_lt (by omega)]

attribute [local irreducible] count

/-- A choice by a bit that says whether `P` holds. -/
theorem pick {α : Type} {c : BitVec 1} {P : Prop} [Decidable P] (h : c = 1#1 ↔ P) (a b : α) :
    Scalar.select c a b = if P then a else b := by
  unfold Scalar.select
  exact if_congr h rfl rfl

theorem select_at0 (c : IVec S32x1 1) (a b : Col) (r : Fin 32) :
    at0 (select c a b) r = if c (ix2 r 0) = 1#1 then at0 a r else at0 b r := apply_ite BitVec.toNat _ _ _

/-- The signed order of two words below the sign bit, as a bit. -/
theorem sge_iff {a b : BitVec 32} (ha : a.toNat < 2 ^ 31) (hb : b.toNat < 2 ^ 31) :
    IntOp.cmpi .sge a b = 1#1 ↔ b.toNat ≤ a.toNat := by
  rw [cmpi_sge_of_lt ha hb, ofBool_decide_eq_one_iff]
theorem slt_iff {a b : BitVec 32} (ha : a.toNat < 2 ^ 31) (hb : b.toNat < 2 ^ 31) :
    IntOp.cmpi .slt a b = 1#1 ↔ a.toNat < b.toNat := by
  rw [cmpi_slt_of_lt ha hb, ofBool_decide_eq_one_iff]
theorem sgt_iff {a b : BitVec 32} (ha : a.toNat < 2 ^ 31) (hb : b.toNat < 2 ^ 31) :
    IntOp.cmpi .sgt a b = 1#1 ↔ b.toNat < a.toNat := slt_iff hb ha
theorem eq_iff (a b : BitVec 32) : IntOp.cmpi .eq a b = 1#1 ↔ a.toNat = b.toNat := by
  rw [cmpi_eq_eq_toNat, ofBool_decide_eq_one_iff]
theorem and_iff (p q : BitVec 1) : IntOp.andi p q = 1#1 ↔ p = 1#1 ∧ q = 1#1 := by
  revert p q; decide
theorem or_iff (p q : BitVec 1) : IntOp.ori p q = 1#1 ↔ p = 1#1 ∨ q = 1#1 := by
  revert p q; decide

/-- The middle of two numbers below the sign bit. -/
theorem mid_toNat (lo hi : BitVec 32) (h : lo.toNat ≤ hi.toNat) (hh : hi.toNat < 2 ^ 31) :
    (IntOp.addi lo (IntOp.shrsi .vector (IntOp.subi hi lo) 1#32)).toNat = lo.toNat + (hi.toNat - lo.toNat) / 2 := by
  have hs : (hi - lo).toNat = hi.toNat - lo.toNat := BitVec.toNat_sub_of_le h
  have hm : (hi - lo).msb = false := BitVec.msb_eq_false_iff_two_mul_lt.2 (by omega)
  have hq : (IntOp.shrsi .vector (IntOp.subi hi lo) 1#32).toNat = (hi.toNat - lo.toNat) / 2 := by
    show ((hi - lo).sshiftRight' 1#32).toNat = _
    rw [BitVec.sshiftRight', BitVec.sshiftRight_eq_of_msb_false hm, BitVec.toNat_ushiftRight, hs]
    rfl
  show (lo + IntOp.shrsi .vector (IntOp.subi hi lo) 1#32).toNat = _
  rw [BitVec.toNat_add, hq]
  omega

theorem mid_at (s : Col × Col) (r : Fin 32) (h : at0 s.1 r ≤ at0 s.2 r) (hh : at0 s.2 r < 2 ^ 31) :
    at0 (mid s) r = at0 s.1 r + (at0 s.2 r - at0 s.1 r) / 2 := mid_toNat _ _ h hh

/-- How many numbers of the row reach the threshold. -/
theorem full_at (b : IVec S32x32768 32) (hb : ∀ i, (b i).toNat < 2 ^ 31) (v : Col) (r : Fin 32) (hv : at0 v r < 2 ^ 31) :
    full b v (ix2 r 0) = 1#1 ↔ 64 ≤ cnt fun j => at0 v r ≤ nums b r j := by
  have hc : at0 (count (atLeast b v)) r = cnt fun j => at0 v r ≤ nums b r j := by
    rw [count_at]
    refine cnt_congr fun j => ?_
    show IntOp.cmpi .sge (b (ix2 r j)) (broadcastTo S32x32768 v broadcasts_S32x1_S32x32768 (ix2 r j)) = 1#1 ↔ _
    rw [spread_at, sge_iff (hb _) hv]
    rfl
  have hle := cnt_le fun j => at0 v r ≤ nums b r j
  rw [← hc] at hle ⊢
  exact sge_iff (a := count (atLeast b v) (ix2 r 0)) (b := 64#32) (by unfold at0 at hle; omega) (by decide)

/-- How many positions of a mask come before the cut. -/
theorem enough_at (eq : Mask) (nd : Col) (v : Col) (r : Fin 32) (hv : at0 v r < 2 ^ 31) (hn : at0 nd r < 2 ^ 31) :
    enough eq nd cols v (ix2 r 0) = 1#1 ↔ at0 nd r ≤ cnt fun j => eq (ix2 r j) = 1#1 ∧ j.val < at0 v r := by
  have hc : at0 (count (before eq cols v)) r = cnt fun j => eq (ix2 r j) = 1#1 ∧ j.val < at0 v r := by
    rw [count_at]
    refine cnt_congr fun j => ?_
    show IntOp.andi (eq (ix2 r j)) (IntOp.cmpi .slt (BitVec.ofNat 32 (0 * 32768 + j.val)) (broadcastTo S32x32768 v broadcasts_S32x1_S32x32768 (ix2 r j))) = 1#1 ↔ _
    have := j.isLt
    rw [spread_at, and_iff, slt_iff (by rw [BitVec.toNat_ofNat]; omega) hv, BitVec.toNat_ofNat,
      Nat.mod_eq_of_lt (by omega), Nat.zero_mul, Nat.zero_add]
    rfl
  have hle := cnt_le fun j => eq (ix2 r j) = 1#1 ∧ j.val < at0 v r
  rw [← hc] at hle ⊢
  exact sge_iff (a := count (before eq cols v) (ix2 r 0)) (by unfold at0 at hle; omega) hn

/-- One step of the search for the threshold, in row `r`. -/
theorem vstep_row (b : IVec S32x32768 32) (hb : ∀ i, (b i).toNat < 2 ^ 31) (s : Col × Col) (r : Fin 32) (w : ℕ) (hw : 0 < w)
    (h : VInv (nums b r) (2 * w) (at0 s.1 r) (at0 s.2 r)) (hh : at0 s.2 r < 2 ^ 31) :
    VInv (nums b r) w (at0 (vstep b s).1 r) (at0 (vstep b s).2 r) ∧ at0 (vstep b s).2 r < 2 ^ 31 := by
  have hlt := h.lt
  have hm := mid_at s r hlt.le hh
  have hf := full_at b hb (mid s) r (by omega)
  have hs := h.step hw
  have e1 : at0 (vstep b s).1 r = if full b (mid s) (ix2 r 0) = 1#1 then at0 (mid s) r else at0 s.1 r :=
    select_at0 _ _ _ r
  have e2 : at0 (vstep b s).2 r = if full b (mid s) (ix2 r 0) = 1#1 then at0 s.2 r else at0 (mid s) r :=
    select_at0 _ _ _ r
  rw [hm] at hf e1 e2
  by_cases c : full b (mid s) (ix2 r 0) = 1#1
  · rw [e1, e2, if_pos c, if_pos c]
    exact ⟨hs.1 (hf.1 c), hh⟩
  · rw [e1, e2, if_neg c, if_neg c]
    exact ⟨hs.2 fun h => c (hf.2 h), by omega⟩

/-- One step of the search for the cut, in row `r`. -/
theorem tstep_row (eq : Mask) (nd : Col) (s : Col × Col) (r : Fin 32) (w : ℕ) (hw : 0 < w) (hn : at0 nd r < 2 ^ 31)
    (h : TInv (fun j => eq (ix2 r j) = 1#1) (at0 nd r) (2 * w) (at0 s.1 r) (at0 s.2 r)) (hh : at0 s.2 r < 2 ^ 31) :
    TInv (fun j => eq (ix2 r j) = 1#1) (at0 nd r) w (at0 (tstep eq nd cols s).1 r) (at0 (tstep eq nd cols s).2 r)
      ∧ at0 (tstep eq nd cols s).2 r < 2 ^ 31 := by
  have hlt := h.lt
  have hm := mid_at s r hlt.le hh
  have hf := enough_at eq nd (mid s) r (by omega) hn
  have hs := h.step hw
  have e1 : at0 (tstep eq nd cols s).1 r = if enough eq nd cols (mid s) (ix2 r 0) = 1#1 then at0 s.1 r else at0 (mid s) r :=
    select_at0 _ _ _ r
  have e2 : at0 (tstep eq nd cols s).2 r = if enough eq nd cols (mid s) (ix2 r 0) = 1#1 then at0 (mid s) r else at0 s.2 r :=
    select_at0 _ _ _ r
  rw [hm] at hf e1 e2
  by_cases c : enough eq nd cols (mid s) (ix2 r 0) = 1#1
  · rw [e1, e2, if_pos c, if_pos c]
    exact ⟨hs.1 (hf.1 c), by omega⟩
  · rw [e1, e2, if_neg c, if_neg c]
    exact ⟨hs.2 fun h => c (hf.2 h), hh⟩

/-- `n` steps shrink a width of `2 ^ n * w` to `w`. -/
theorem vsteps_row (b : IVec S32x32768 32) (hb : ∀ i, (b i).toNat < 2 ^ 31) (r : Fin 32) (w : ℕ) (hw : 0 < w) (n : ℕ) :
    ∀ s : Col × Col, VInv (nums b r) (2 ^ n * w) (at0 s.1 r) (at0 s.2 r) → at0 s.2 r < 2 ^ 31 →
      VInv (nums b r) w (at0 ((vstep b)^[n] s).1 r) (at0 ((vstep b)^[n] s).2 r) ∧ at0 ((vstep b)^[n] s).2 r < 2 ^ 31 := by
  induction n with
  | zero => intro s h hh; rw [Nat.pow_zero, Nat.one_mul] at h; exact ⟨h, hh⟩
  | succ n ih =>
    intro s h hh
    rw [Nat.pow_succ, Nat.mul_comm (2 ^ n) 2, Nat.mul_assoc] at h
    have := vstep_row b hb s r _ (Nat.mul_pos (Nat.two_pow_pos n) hw) h hh
    rw [Function.iterate_succ_apply (vstep b)]
    exact ih _ this.1 this.2

theorem tsteps_row (eq : Mask) (nd : Col) (r : Fin 32) (hn : at0 nd r < 2 ^ 31) (n : ℕ) :
    ∀ s : Col × Col, TInv (fun j => eq (ix2 r j) = 1#1) (at0 nd r) (2 ^ n) (at0 s.1 r) (at0 s.2 r) → at0 s.2 r < 2 ^ 31 →
      TInv (fun j => eq (ix2 r j) = 1#1) (at0 nd r) 1 (at0 ((tstep eq nd cols)^[n] s).1 r) (at0 ((tstep eq nd cols)^[n] s).2 r)
        ∧ at0 ((tstep eq nd cols)^[n] s).2 r < 2 ^ 31 := by
  induction n with
  | zero => intro s h hh; exact ⟨h, hh⟩
  | succ n ih =>
    intro s h hh
    rw [Nat.pow_succ, Nat.mul_comm (2 ^ n) 2] at h
    have := tstep_row eq nd s r _ (Nat.two_pow_pos n) hn h hh
    rw [Function.iterate_succ_apply (tstep eq nd cols)]
    exact ih _ this.1 this.2

end Cert.Proof
-- ==== Proof.Start.lean ====
/-
  Where the search for the threshold starts. The words of a row are split into 128 lanes; the search starts at the least of
  the lanes' maxima, which 128 elements of the row reach, and ends past the row's maximum or, if that is the largest word
  below the sign bit, at it.
-/
module

public import proofs.«01_k».proof.Proof.Steps
public import Idealize.ShloMosaic.Lib.SortNet.Extract

@[expose] public section

noncomputable section

namespace Cert.Proof

open Cert.Kernel Cert.Kernel.Gen
open Idealize.ShloMosaic hiding ix1 ix2 ix3
open Idealize.ShloMosaic.ValueIdx Idealize.ShloMosaic.WordCmp

/-- A word below the sign bit is its number, read with a sign. -/
theorem signed {a : BitVec 32} (h : a.toNat < 2 ^ 31) : a.toInt = (a.toNat : ℤ) := toInt_eq_toNat_of_lt_half h

/-- A word that is not negative is below the sign bit. -/
theorem small_of_nonneg {a : BitVec 32} (h : 0 ≤ a.toInt) : a.toNat < 2 ^ 31 := (toInt_nonneg_iff_lt_half a).1 h

/-- The greatest of some words below the sign bit. -/
theorem greatest {n : ℕ} (g : Fin n → BitVec 32) (hg : ∀ i, (g i).toNat < 2 ^ 31) (i0 : Fin n) :
    (Finset.univ.fold IntOp.maxsi 2147483648#32 g).toNat < 2 ^ 31
      ∧ (∀ i, (g i).toNat ≤ (Finset.univ.fold IntOp.maxsi 2147483648#32 g).toNat)
      ∧ ∃ i, Finset.univ.fold IntOp.maxsi 2147483648#32 g = g i := by
  obtain ⟨-, h2, h3⟩ := SortNet.fold_maxsi_spec g Finset.univ 2147483648#32
  have h0 := h2 i0 (Finset.mem_univ i0)
  rw [signed (hg i0)] at h0
  have hs := small_of_nonneg (le_trans (Int.natCast_nonneg _) h0)
  refine ⟨hs, fun i => ?_, ?_⟩
  · have h := h2 i (Finset.mem_univ i)
    rw [signed (hg i), signed hs] at h
    exact Int.ofNat_le.1 h
  · rcases h3 with e | ⟨i, -, e⟩
    · rw [e] at hs
      exact absurd hs (by decide)
    · exact ⟨i, e⟩

/-- The least of some words below the sign bit, and of the largest such word. -/
theorem least {n : ℕ} (g : Fin n → BitVec 32) (hg : ∀ i, (g i).toNat < 2 ^ 31) :
    (Finset.univ.fold IntOp.minsi 2147483647#32 g).toNat < 2 ^ 31
      ∧ ∀ i, (Finset.univ.fold IntOp.minsi 2147483647#32 g).toNat ≤ (g i).toNat := by
  have h : ∀ s : Finset (Fin n), 0 ≤ (s.fold IntOp.minsi 2147483647#32 g).toInt
      ∧ ∀ i ∈ s, (s.fold IntOp.minsi 2147483647#32 g).toInt ≤ (g i).toInt := by
    intro s
    induction s using Finset.induction_on with
    | empty => exact ⟨by rw [Finset.fold_empty]; decide, fun i hi => absurd hi (Finset.notMem_empty i)⟩
    | insert a s ha ih =>
      rw [Finset.fold_insert ha, SortNet.toInt_minsi]
      refine ⟨le_min (by rw [signed (hg a)]; exact Int.natCast_nonneg _) ih.1, fun i hi => ?_⟩
      rcases Finset.mem_insert.1 hi with rfl | hi
      · exact min_le_left _ _
      · exact (min_le_right _ _).trans (ih.2 i hi)
  have hs := small_of_nonneg (h Finset.univ).1
  refine ⟨hs, fun i => ?_⟩
  have := (h Finset.univ).2 i (Finset.mem_univ i)
  rw [signed (hg i), signed hs] at this
  exact Int.ofNat_le.1 this

theorem maxsi_toNat {a b : BitVec 32} (ha : a.toNat < 2 ^ 31) (hb : b.toNat < 2 ^ 31) :
    (IntOp.maxsi a b).toNat = max a.toNat b.toNat := by
  have h := SortNet.toInt_maxsi a b
  rw [signed ha, signed hb] at h
  have hs : (IntOp.maxsi a b).toNat < 2 ^ 31 := small_of_nonneg (by rw [h]; omega)
  rw [signed hs] at h
  omega

/-- The magnitudes' words, in the row `r` of a block. -/
def mags (x : Vec Bits S32x32768 .f32) (r : Fin 32) : Fin 32768 → ℕ := nums (k0_pay83 x) r

theorem mag_lt (x : Vec Bits S32x32768 .f32) (i : S32x32768.Idx) : (k0_pay83 x i).toNat < 2 ^ 31 := by
  show (IntOp.andi (bitcastToInt (F := Bits) (φ := .f32) x i) 2147483647#32).toNat < 2 ^ 31
  unfold IntOp.andi
  rw [BitVec.toNat_and]
  exact Nat.lt_of_le_of_lt Nat.and_le_right (by decide)

/-- The column of element `k` of lane `l`. -/
def col (k : Fin 256) (l : Fin 128) : Fin 32768 := ⟨k.val * 128 + l.val, by omega⟩

theorem col_inj {k k' : Fin 256} {l l' : Fin 128} (h : col k l = col k' l') : l = l' := by
  have := congrArg Fin.val h
  unfold col at this
  simp only at this
  exact Fin.ext (by omega)

theorem col_all (j : Fin 32768) : ∃ k l, j = col k l :=
  ⟨⟨j.val / 128, by omega⟩, ⟨j.val % 128, by omega⟩, Fin.ext (by unfold col; simp only; omega)⟩

/-- A lane's maximum. -/
def laneMax (x : Vec Bits S32x32768 .f32) (r : Fin 32) (l : Fin 128) : BitVec 32 :=
  Finset.univ.fold IntOp.maxsi 2147483648#32 fun k => k0_pay83 x (ix2 r (col k l))

theorem lane_at (x : Vec Bits S32x32768 .f32) (r : Fin 32) (l : Fin 128) : k0_pay84 x (ix2 r l) = laneMax x r l := by
  have hk : ∀ k, reduces_S32x256x128_S32x128.lift (ix2 r l) k = ix3 r k l := fun k => by
    funext c
    fin_cases c <;> rfl
  have hc : ∀ k : Fin 256, shapeCast S32x256x128 (k0_pay83 x) shapeCasts_S32x32768_S32x256x128 (ix3 r k l)
      = k0_pay83 x (ix2 r (col k l)) := fun k => by
    refine shapeCast_apply (k0_pay83 x) _ _ (ix2 r (col k l)) ?_
    rw [Shape.rowMajor_val_two, Shape.rowMajor_val_three]
    show r.val * 32768 + (k.val * 128 + l.val) = (r.val * 256 + k.val) * 128 + l.val
    omega
  unfold k0_pay84
  refine (multiReductionI_eq_fold .maxsi _ _ _ rfl _).trans
    ((Shape.Reduces.fold_filter_drop_single reduces_S32x256x128_S32x128 IntOp.maxsi _ _ _).trans ?_)
  exact congrArg (Finset.univ.fold IntOp.maxsi 2147483648#32) (funext fun k => (congrArg _ (hk k)).trans (hc k))

/-- A reduction over the lanes. -/
theorem over_lanes (kind : IKind) (y : IVec S32x128 32) (acc : BitVec 32) (h : acc = kind.neutral) (r : Fin 32) :
    shapeCast S32x1 (multiReductionI kind [1] S32 y acc reduces_S32x128_S32 h) shapeCasts_S32_S32x1 (ix2 r 0)
      = Finset.univ.fold kind.op acc fun l : Fin 128 => y (ix2 r l) := by
  rw [shapeCast_a_a1_apply, multiReductionI_eq_fold]
  refine (Shape.Reduces.fold_filter_drop_single reduces_S32x128_S32 kind.op acc y (ix1 r)).trans ?_
  congr 1
  funext l
  refine congrArg y ?_
  funext c
  fin_cases c <;> rfl

/-- The least of the lanes' maxima. -/
theorem low_at (x : Vec Bits S32x32768 .f32) (r : Fin 32) :
    k0_pay85 x (ix2 r 0) = Finset.univ.fold IntOp.minsi 2147483647#32 (laneMax x r) :=
  (over_lanes .minsi (k0_pay84 x) _ rfl r).trans (congrArg (Finset.univ.fold IntOp.minsi 2147483647#32) (funext (lane_at x r)))

/-- The greatest of them, which is the row's maximum. -/
def top (x : Vec Bits S32x32768 .f32) (r : Fin 32) : BitVec 32 := Finset.univ.fold IntOp.maxsi 2147483648#32 (laneMax x r)

theorem top_at (x : Vec Bits S32x32768 .f32) (r : Fin 32) :
    shapeCast S32x1 (multiReductionI .maxsi [1] S32 (k0_pay84 x) 2147483648#32 reduces_S32x128_S32 rfl) shapeCasts_S32_S32x1 (ix2 r 0)
      = top x r :=
  (over_lanes .maxsi (k0_pay84 x) _ rfl r).trans (congrArg (Finset.univ.fold IntOp.maxsi 2147483648#32) (funext (lane_at x r)))

/-- The interval's end, from its start and the row's maximum. -/
theorem high_at (x : Vec Bits S32x32768 .f32) (r : Fin 32) :
    k0_pay86 x (ix2 r 0)
      = IntOp.maxsi (Scalar.select (IntOp.cmpi .eq (top x r) 2147483647#32) (top x r) (top x r + 1#32)) (k0_pay85 x (ix2 r 0) + 1#32) := by
  rw [← top_at]
  rfl

/-- The search starts with an interval that holds the threshold, in a row with fewer than 64 words of the largest magnitude. -/
theorem start_row (x : Vec Bits S32x32768 .f32) (r : Fin 32) (hp : (cnt fun j => mags x r j = 2147483647) < 64) :
    VInv (mags x r) (2 ^ 31) (at0 (start x).1 r) (at0 (start x).2 r) ∧ at0 (start x).2 r < 2 ^ 31 := by
  have hl := fun l => greatest (fun k => k0_pay83 x (ix2 r (col k l))) (fun k => mag_lt x _) 0
  have hlo := least (laneMax x r) fun l => (hl l).1
  have hto := greatest (laneMax x r) (fun l => (hl l).1) 0
  have htop : ∀ j, mags x r j ≤ (top x r).toNat := fun j => by
    obtain ⟨k, l, rfl⟩ := col_all j
    exact ((hl l).2.1 k).trans (hto.2.1 l)
  have hlt : ∀ j, mags x r j < 2 ^ 31 := fun j => mag_lt x _
  rw [← low_at] at hlo
  have h128 : 128 ≤ cnt fun j => at0 (start x).1 r ≤ mags x r j := by
    choose k hk using fun l => (hl l).2.2
    have : (Finset.univ : Finset (Fin 128)).card ≤ (Finset.univ.filter fun j => at0 (start x).1 r ≤ mags x r j).card :=
      Finset.card_le_card_of_injOn (fun l => col (k l) l)
        (fun l _ => Finset.mem_coe.2 (Finset.mem_filter.2 ⟨Finset.mem_univ _, (hlo.2 l).trans (congrArg BitVec.toNat (hk l)).le⟩))
        (fun l _ l' _ h => col_inj h)
    rwa [Finset.card_univ, Fintype.card_fin] at this
  have hlow : at0 (start x).1 r < 2147483647 := by
    by_contra hge
    have := cnt_mono (P := fun j => at0 (start x).1 r ≤ mags x r j) (Q := fun j => mags x r j = 2147483647)
      fun j hj => by have := hlt j; omega
    omega
  have hsel : (Scalar.select (IntOp.cmpi .eq (top x r) 2147483647#32) (top x r) (top x r + 1#32)).toNat
      = if (top x r).toNat = 2147483647 then (top x r).toNat else (top x r).toNat + 1 := by
    rw [pick (eq_iff _ _), apply_ite BitVec.toNat]
    refine ite_congr rfl (fun _ => rfl) fun h => ?_
    have ht : (top x r).toNat < 2 ^ 31 := hto.1
    rw [BitVec.toNat_add]
    show ((top x r).toNat + 1) % 2 ^ 32 = _
    omega
  have hone : (k0_pay85 x (ix2 r 0) + 1#32).toNat = at0 (start x).1 r + 1 := by
    rw [BitVec.toNat_add]
    show (at0 (start x).1 r + 1) % 2 ^ 32 = _
    omega
  have htl : (top x r).toNat < 2 ^ 31 := hto.1
  have hhi : at0 (start x).2 r
      = max (if (top x r).toNat = 2147483647 then (top x r).toNat else (top x r).toNat + 1) (at0 (start x).1 r + 1) := by
    show (k0_pay86 x (ix2 r 0)).toNat = _
    rw [high_at, maxsi_toNat (by rw [hsel]; split <;> omega) (by rw [hone]; omega), hsel, hone]
  have hh : at0 (start x).2 r < 2 ^ 31 := by rw [hhi]; split <;> omega
  refine ⟨⟨by omega, lt_of_le_of_lt (cnt_mono fun j hj => ?_) hp, by omega⟩, hh⟩
  have h1 := htop j
  rw [hhi] at hj
  split at hj <;> omega

end Cert.Proof
-- ==== Proof.SomeRow.lean ====
/-
  The kernel's test whether a bit is set in some row: when it fails, the bit is set in no row.
-/
module

public import proofs.«01_k».proof.Proof.Block
public import Idealize.ShloMosaic.PureOps.BitExact.Laws
public import Idealize.ShloMosaic.Lib.NatWordsOrder
public import Idealize.ShloMosaic.Lib.ValueLayoutCasts

@[expose] public section

noncomputable section

namespace Cert.Proof

open Cert.Kernel Cert.Kernel.Gen
open Idealize.ShloMosaic Idealize.ShloMosaic.ValueIdx Idealize.ShloMosaic.Bits

/-- One where the bit is set, zero elsewhere. -/
def flag (p : IVec S32x1 1) (i : S32x1.Idx) : ℕ := if p i = 1#1 then 1 else 0

theorem flag_le (p : IVec S32x1 1) (i : S32x1.Idx) : flag p i ≤ 1 := by unfold flag; split <;> omega

/-- The test's floats are ones and zeros. -/
theorem flag_word (p : IVec S32x1 1) (i : S32x1.Idx) :
    select p (broadcast S32x1 (Scalar.ofBits (F := Bits) .f32 0x3F800000#32)) (broadcast S32x1 (Scalar.ofBits .f32 0x00000000#32)) i
      = f32OfNat (flag p i) := by
  have h1 : f32OfNat 1 = (Scalar.ofBits (F := Bits) .f32 0x3F800000#32) := by
    rw [f32OfNat_eq 1 (by decide)]; decide
  show (if p i = 1#1 then _ else _) = _
  unfold flag
  by_cases h : p i = 1#1
  · rw [if_pos h, if_pos h, h1]; rfl
  · rw [if_neg h, if_neg h, f32OfNat_zero]; rfl

/-- If the test fails, no row has its bit set. -/
theorem someRow_none (p : IVec S32x1 1) (h : ¬ someRow Bits p = 1#1) (r : Fin 32) : ¬ p (ix2 r 0) = 1#1 := by
  intro hp
  refine h ?_
  let f : S1x32x1.Idx → ℕ := shapeCast S1x32x1 (flag p) shapeCasts_S32x1_S1x32x1
  have hf : ∀ i, f i ≤ 1 := fun i => flag_le p _
  have hr : f (ix3 0 r 0) = 1 := by
    have : f (ix3 0 r 0) = flag p (ix2 r 0) := shapeCast_apply _ _ _ _ (by
      rw [Shape.rowMajor_val_two, Shape.rowMajor_val_three]
      show r.val * 1 + 0 = ((0 * 32 + r.val) * 1 + 0)
      omega)
    rw [this]
    exact if_pos hp
  have hv : shapeCast S1x32x1 (select p (broadcast S32x1 (Scalar.ofBits (F := Bits) .f32 0x3F800000#32))
      (broadcast S32x1 (Scalar.ofBits .f32 0x00000000#32))) shapeCasts_S32x1_S1x32x1 = fun i => f32OfNat (f i) :=
    funext fun i => flag_word p _
  unfold someRow
  rw [hv]
  have hm : ∃ n, 1 ≤ n ∧ n ≤ 1 ∧ k0_pay1 (F := Bits) (fun i => f32OfNat (f i)) = f32OfNat n := by
    let j : S1.Idx := Shape.reshapeEquiv shapeCasts_S1_S1x1x1 (fun a => ⟨![0, 0, 0] a, inpos_S1x1x1_p0_0_0 a⟩)
    have hj : ix3 0 r 0 ∈ Finset.univ.filter fun i => reduces_S1x32x1_S1.drop i = j :=
      Finset.mem_filter.2 ⟨Finset.mem_univ _, funext fun a => by
        fin_cases a
        exact Subsingleton.elim (α := Fin 1) _ _⟩
    have hs := fold_max_spec (Finset.univ.filter fun i => reduces_S1x32x1_S1.drop i = j) f 0
    have e : k0_pay1 (F := Bits) (fun i => f32OfNat (f i))
        = multiReduction (F := Bits) .maximumf [1, 2] S1 (fun i => f32OfNat (f i)) 0xFF800000#32 reduces_S1x32x1_S1 (.inl rfl) rfl j := rfl
    have e' := fold_maximumf_negativeInfinity_nat (Finset.univ.filter fun i => reduces_S1x32x1_S1.drop i = j) ⟨_, hj⟩ f
      fun i _ => (hf i).trans (Nat.one_le_two_pow)
    have e'' := multiReduction_maximumf_eq_fold (F := Bits) (φ := .f32) (axes := [1, 2]) (fun i => f32OfNat (f i)) 0xFF800000#32
      reduces_S1x32x1_S1 (.inl rfl) rfl j
    rw [show (FloatOps.ofBits .f32 0xFF800000#32 : Bits .f32) = (0xFF800000#32 : Bits .f32) from rfl, e'] at e''
    refine ⟨_, hr.symm.le.trans (hs.2.1 _ hj), ?_, e.trans e''⟩
    rcases hs.2.2 with e | ⟨i, -, e⟩ <;> rw [e]
    · omega
    · exact hf i
  obtain ⟨n, h1, h2, e⟩ := hm
  obtain rfl : n = 1 := by omega
  rw [e]
  have hc : (Scalar.cmpf (F := Bits) .ogt (f32OfNat 1) (Scalar.ofBits .f32 0x00000000#32)) = 1#1 := by
    have := cmpf32_ogt_nat (a := 1) (b := 0) (by decide) (by decide)
    rw [f32OfNat_zero] at this
    exact this
  rw [hc]
  rfl

end Cert.Proof
-- ==== Proof.BlockValue.lean ====
/-
  What the kernel stores for a block: of each row the elements that are `Kept`, and zero elsewhere.
-/
module

public import proofs.«01_k».proof.Proof.Start
public import proofs.«01_k».proof.Proof.SomeRow

@[expose] public section

noncomputable section

namespace Cert.Proof

open Cert.Kernel Cert.Kernel.Gen
open Idealize.ShloMosaic hiding ix1 ix2 ix3
open Idealize.ShloMosaic.ValueIdx Idealize.ShloMosaic.WordCmp

variable (x : Vec Bits S32x32768 .f32) (r : Fin 32)

attribute [local irreducible] count

/-- The threshold found: at least 64 elements of the row reach it, fewer exceed it. -/
theorem thr_row (hp : (cnt fun j => mags x r j = 2147483647) < 64) :
    64 ≤ (cnt fun j => at0 (thr x) r ≤ mags x r j) ∧ (cnt fun j => at0 (thr x) r < mags x r j) < 64 ∧ at0 (thr x) r < 2 ^ 31 := by
  have hs := start_row x r hp
  have h24 := vsteps_row (k0_pay83 x) (mag_lt x) r (2 ^ 7) (by decide) 24 (start x)
    ⟨hs.1.low, hs.1.high, by have := hs.1.width; omega⟩ hs.2
  change VInv (mags x r) (2 ^ 7) (at0 (mid24 x).1 r) (at0 (mid24 x).2 r) ∧ at0 (mid24 x).2 r < 2 ^ 31 at h24
  have hend : ∃ hi, VInv (mags x r) 1 (at0 (thr x) r) hi ∧ hi < 2 ^ 31 := by
    by_cases c : someRow Bits (cmpi .sgt (subi (mid24 x).2 (mid24 x).1) (broadcast S32x1 1#32)) = 1#1
    · have e : thr x = ((vstep (k0_pay83 x))^[7] (mid24 x)).1 := if_pos c
      rw [e]
      exact ⟨_, vsteps_row (k0_pay83 x) (mag_lt x) r 1 (by decide) 7 (mid24 x) h24.1 h24.2⟩
    · have e : thr x = (mid24 x).1 := if_neg c
      have hn : ¬ IntOp.cmpi .sgt (IntOp.subi ((mid24 x).2 (ix2 r 0)) ((mid24 x).1 (ix2 r 0))) 1#32 = 1#1 := someRow_none _ c r
      have hlt := h24.1.lt
      have hsub : (IntOp.subi ((mid24 x).2 (ix2 r 0)) ((mid24 x).1 (ix2 r 0))).toNat = at0 (mid24 x).2 r - at0 (mid24 x).1 r :=
        BitVec.toNat_sub_of_le hlt.le
      have hh := h24.2
      rw [sgt_iff (by rw [hsub]; omega) (by decide), hsub] at hn
      have h1 : (1#32 : BitVec 32).toNat = 1 := rfl
      rw [e]
      exact ⟨_, ⟨h24.1.low, h24.1.high, by omega⟩, h24.2⟩
  obtain ⟨hi, h, hh⟩ := hend
  have h1 := h.lt
  have h2 := h.width
  refine ⟨h.low, lt_of_le_of_lt (cnt_mono fun j hj => ?_) h.high, by omega⟩
  omega

theorem above_at (hp : (cnt fun j => mags x r j = 2147483647) < 64) (j : Fin 32768) :
    above x (ix2 r j) = 1#1 ↔ at0 (thr x) r < mags x r j := by
  show IntOp.cmpi .sgt (k0_pay83 x (ix2 r j)) (broadcastTo S32x32768 (thr x) broadcasts_S32x1_S32x32768 (ix2 r j)) = 1#1 ↔ _
  rw [spread_at, sgt_iff (mag_lt x _) (thr_row x r hp).2.2]
  rfl

theorem ties_at (j : Fin 32768) : ties x (ix2 r j) = 1#1 ↔ mags x r j = at0 (thr x) r := by
  show IntOp.cmpi .eq (k0_pay83 x (ix2 r j)) (broadcastTo S32x32768 (thr x) broadcasts_S32x1_S32x32768 (ix2 r j)) = 1#1 ↔ _
  rw [spread_at, eq_iff]
  rfl

/-- How many of the elements equal to the threshold are kept. -/
theorem need_at (hp : (cnt fun j => mags x r j = 2147483647) < 64) :
    at0 (need x) r = 64 - cnt fun j => at0 (thr x) r < mags x r j := by
  have hc : at0 (count (above x)) r = cnt fun j => at0 (thr x) r < mags x r j :=
    (count_at _ r).trans (cnt_congr (above_at x r hp))
  have ht := (thr_row x r hp).2.1
  rw [← hc] at ht ⊢
  show (64#32 - count (above x) (ix2 r 0)).toNat = _
  exact BitVec.toNat_sub_of_le (x := 64#32) ht.le

/-- The cut: the elements above the threshold, and those equal to it before the cut, are 64. -/
theorem cut_row (hp : (cnt fun j => mags x r j = 2147483647) < 64) :
    (cnt fun j => at0 (thr x) r < mags x r j) + (cnt fun j => mags x r j = at0 (thr x) r ∧ j.val < at0 (cut x) r) = 64
      ∧ at0 (cut x) r < 2 ^ 31 := by
  have ht := thr_row x r hp
  have hn := need_at x r hp
  have hties : (cnt fun j => mags x r j = at0 (thr x) r) = cnt fun j => ties x (ix2 r j) = 1#1 :=
    cnt_congr fun j => (ties_at x r j).symm
  have hall : (cnt fun j => at0 (thr x) r < mags x r j) + (cnt fun j => mags x r j = at0 (thr x) r)
      = cnt fun j => at0 (thr x) r ≤ mags x r j := by
    rw [← cnt_or fun j h1 h2 => by omega]
    exact cnt_congr fun j => by omega
  have hend : (cnt fun j => ties x (ix2 r j) = 1#1 ∧ j.val < at0 (cut x) r) = at0 (need x) r ∧ at0 (cut x) r < 2 ^ 31 := by
    by_cases c : someRow Bits (cmpi .sgt (count (ties x)) (need x)) = 1#1
    · have e : cut x = ((tstep (ties x) (need x) cols)^[15] allCols).2 := if_pos c
      rw [e]
      have e1 : at0 allCols.1 r = 0 := rfl
      have e2 : at0 allCols.2 r = 32768 := rfl
      have h15 := tsteps_row (ties x) (need x) r (by omega) 15 allCols (by
        rw [e1, e2]
        refine ⟨?_, ?_, by decide⟩
        · rw [cnt_congr (Q := fun _ => False) fun j => ⟨fun h => Nat.not_lt_zero _ h.2, False.elim⟩]
          have : (cnt fun _ : Fin 32768 => False) = 0 := by simp [cnt]
          omega
        · rw [cnt_congr (Q := fun j => ties x (ix2 r j) = 1#1) fun j => ⟨fun h => h.1, fun h => ⟨h, j.isLt⟩⟩]
          omega) (by rw [e2]; decide)
      exact ⟨h15.1.final, h15.2⟩
    · have e : cut x = broadcast S32x1 32768#32 := if_neg c
      have e2 : at0 (cut x) r = 32768 := by rw [e]; rfl
      have hn' : ¬ IntOp.cmpi .sgt (count (ties x) (ix2 r 0)) (need x (ix2 r 0)) = 1#1 := someRow_none _ c r
      have hc := count_at (ties x) r
      have hle := cnt_le fun j => ties x (ix2 r j) = 1#1
      rw [sgt_iff (show at0 (count (ties x)) r < 2 ^ 31 by rw [hc]; omega) (show at0 (need x) r < 2 ^ 31 by omega)] at hn'
      change ¬ at0 (need x) r < at0 (count (ties x)) r at hn'
      rw [e2, cnt_congr (Q := fun j => ties x (ix2 r j) = 1#1) fun j => ⟨fun h => h.1, fun h => ⟨h, j.isLt⟩⟩]
      exact ⟨le_antisymm (hc.symm.le.trans (not_lt.1 hn')) (by omega), by decide⟩
  refine ⟨?_, hend.2⟩
  have e : (cnt fun j => mags x r j = at0 (thr x) r ∧ j.val < at0 (cut x) r)
      = cnt fun j => ties x (ix2 r j) = 1#1 ∧ j.val < at0 (cut x) r := cnt_congr fun j => and_congr_left' (ties_at x r j).symm
  omega

/-- The block that the kernel stores, at row `r` and column `j`. -/
theorem blockOut_at (hp : (cnt fun j => mags x r j = 2147483647) < 64) (j : Fin 32768) :
    blockOut x (ix2 r j) = if Kept (mags x r) j then x (ix2 r j) else (0#32 : BitVec 32) := by
  have hcut := cut_row x r hp
  have hk := kept_iff (mags x r) (at0 (thr x) r) (at0 (cut x) r) hcut.1 j
  have hb : IntOp.ori (above x (ix2 r j)) (IntOp.andi (ties x (ix2 r j))
      (IntOp.cmpi .slt (cols (ix2 r j)) (broadcastTo S32x32768 (cut x) broadcasts_S32x1_S32x32768 (ix2 r j)))) = 1#1
      ↔ Kept (mags x r) j := by
    have hcol : (cols (ix2 r j)).toNat = j.val := by
      show (BitVec.ofNat 32 (0 * 32768 + j.val)).toNat = _
      rw [BitVec.toNat_ofNat]
      omega
    rw [hk, spread_at, or_iff, and_iff, above_at x r hp, ties_at, slt_iff (by rw [hcol]; omega) hcut.2, hcol]
    rfl
  exact pick hb _ _

end Cert.Proof
-- ==== Proof.TopRow.lean ====
/-
  The reference's choice, in one row: of a row's positions sorted stably by descending number, the first 64 are the ones
  that are `Kept`.
-/
module

public import proofs.«01_k».proof.Proof.RowMath
public import Idealize.ShloMosaic.Lib.SortFacts

@[expose] public section

namespace Cert.Proof

open Idealize.ShloMosaic

variable {n : ℕ} (b : Fin n → ℕ)

/-- The larger number comes first. -/
def larger (i j : Fin n) : Bool := decide (b j < b i)

/-- The larger number comes first and, of equal numbers, the smaller position. -/
def Before (i j : Fin n) : Prop := b j < b i ∨ (b i = b j ∧ i < j)

instance (i j : Fin n) : Decidable (Before b i j) := inferInstanceAs (Decidable (_ ∨ _))

/-- Inserting a position below all those of an ordered list keeps it ordered. -/
theorem ordered_insert (a : Fin n) (l : List (Fin n)) (ha : ∀ c ∈ l, a < c) (hl : l.Pairwise (Before b)) :
    (insertBefore (larger b) a l).Pairwise (Before b) := by
  induction l with
  | nil => exact List.pairwise_singleton _ _
  | cons c l ih =>
    rw [List.pairwise_cons] at hl
    have hac := ha c List.mem_cons_self
    unfold insertBefore
    by_cases h : larger b c a = true
    · rw [if_pos h, List.pairwise_cons]
      refine ⟨fun d hd => ?_, ih (fun d hd => ha d (List.mem_cons_of_mem c hd)) hl.2⟩
      rcases List.mem_cons.1 ((perm_insertBefore (larger b) a l).mem_iff.1 hd) with rfl | hd
      · exact Or.inl (of_decide_eq_true h)
      · exact hl.1 d hd
    · rw [if_neg h, List.pairwise_cons]
      have hle : ¬ b a < b c := fun h' => h (decide_eq_true h')
      have hb : Before b a c := by
        unfold Before
        omega
      refine ⟨fun d hd => ?_, List.pairwise_cons.2 hl⟩
      rcases List.mem_cons.1 hd with rfl | hd
      · exact hb
      · have h1 := hl.1 d hd
        have h2 := ha d (List.mem_cons_of_mem c hd)
        unfold Before at h1 hb ⊢
        omega

/-- The stable sort of ascending positions by descending number is ordered. -/
theorem ordered_sort (l : List (Fin n)) (hl : l.Pairwise (· < ·)) : (stableSort (larger b) l).Pairwise (Before b) := by
  induction l with
  | nil => exact List.Pairwise.nil
  | cons a l ih =>
    rw [List.pairwise_cons] at hl
    unfold stableSort
    exact ordered_insert b a _ (fun c hc => hl.1 c ((perm_stableSort (larger b) l).mem_iff.1 hc)) (ih hl.2)

/-- An earlier place of the sort holds a position that comes before that of a later place. -/
theorem sorted_before (i j : Fin n) (h : i < j) : Before b (sortedFrom (larger b) i) (sortedFrom (larger b) j) :=
  List.pairwise_iff_get.1 (ordered_sort b (List.finRange n) (List.pairwise_lt_finRange n)) _ _ h

/-- As many positions come before the one at place `i` as there are places before `i`. -/
theorem rank_sorted (i : Fin n) :
    (cnt fun q => b (sortedFrom (larger b) i) < b q ∨ (b q = b (sortedFrom (larger b) i) ∧ q < sortedFrom (larger b) i)) = i.val := by
  have e : (Finset.univ.filter fun q => b (sortedFrom (larger b) i) < b q ∨ (b q = b (sortedFrom (larger b) i) ∧ q < sortedFrom (larger b) i))
      = (Finset.univ.filter fun k : Fin n => k < i).image (sortedFrom (larger b)) := by
    ext q
    obtain ⟨k, rfl⟩ := sortedFrom_surjective (larger b) q
    rw [Finset.mem_filter, Finset.mem_image]
    constructor
    · rintro ⟨-, h⟩
      refine ⟨k, Finset.mem_filter.2 ⟨Finset.mem_univ _, ?_⟩, rfl⟩
      rcases lt_trichotomy k i with hk | rfl | hk
      · exact hk
      · omega
      · have := sorted_before b i k hk
        unfold Before at this
        omega
    · rintro ⟨k', hk', e⟩
      rw [← e]
      exact ⟨Finset.mem_univ _, sorted_before b k' i (Finset.mem_filter.1 hk').2⟩
  unfold cnt
  rw [e, Finset.card_image_of_injective _ (sortedFrom_injective _)]
  have : (Finset.univ.filter fun k : Fin n => k < i) = Finset.Iio i := by
    ext k
    simp
  rw [this, Fin.card_Iio]

/-- The kept positions are those at the first 64 places of the sort. -/
theorem kept_sorted (i : Fin n) : Kept b (sortedFrom (larger b) i) ↔ i.val < 64 := by
  unfold Kept
  rw [rank_sorted]

end Cert.Proof
-- ==== Proof.RefSort.lean ====
/-
  The positions the reference's top-k returns: of row `p`, at place `k`, the position the stable descending sort of the
  row's magnitudes puts there.
-/
module

public import proofs.«01_k».proof.Proof.TopRow
public import proofs.«01_k».proof.Proof.Steps
public import proofs.«01_k».proof.Proof.Gen.Reference.Run
public import Idealize.ShloMosaic.Lib.Pointwise
public import Idealize.ShloMosaic.Lib.ValueLayoutCasts
public import Idealize.ShloMosaic.Lib.SortKey
public import Idealize.ShloMosaic.Lib.WordCmp

@[expose] public section

noncomputable section

namespace Cert.Proof

open Cert.Reference Cert.Reference.Gen
open Idealize.ShloMosaic hiding ix1 ix2 ix3
open Idealize.ShloMosaic.ValueIdx Idealize.ShloMosaic.WordCmp

/-- The positions of a top-k along the second axis: at row `p`, place `k`, what the stable sort by `R` puts there, where
    `R` is the comparison between elements of that row. -/
theorem topK_pos {α : Type} {a b c : ℕ} (gt : α → α → BitVec 1) (x : (⟨2, ![a, b]⟩ : Shape).Idx → α)
    (h : (⟨2, ![a, b]⟩ : Shape).Slices (fun _ => 0) ⟨2, ![a, c]⟩) (R : Fin b → Fin b → Bool) (p : Fin a)
    (e : ∀ i i', (gt (x (ix2 p i)) (x (ix2 p i')) == 1#1) = R i i') (k : Fin c) (hk : k.val < b) :
    (Host.topK ⟨2, ![a, c]⟩ 1 gt x h).2 (ix2 p k) = BitVec.ofNat 32 (sortedFrom R ⟨k.val, hk⟩).val := by
  have ha : ∀ (l i : Fin b), (ix2 p l).along (1 : Fin 2) i = ix2 p i := fun l i => by
    funext d
    fin_cases d <;> rfl
  have hj : (show (⟨2, ![a, b]⟩ : Shape).Idx from fun d => ⟨0 + (ix2 p k d).val, Nat.lt_of_lt_of_le (Nat.add_lt_add_left (ix2 p k d).isLt _) (h.2 d)⟩)
      = ix2 p ⟨k.val, hk⟩ := by
    funext d
    refine Fin.ext ?_
    fin_cases d
    · exact Nat.zero_add _
    · exact Nat.zero_add _
  let π (l : (⟨2, ![a, b]⟩ : Shape).Idx) : Fin b :=
    sortedFrom (fun i i' => gt (x (l.along (1 : Fin 2) i)) (x (l.along (1 : Fin 2) i')) == 1#1) (l 1)
  refine (congrArg (fun l : (⟨2, ![a, b]⟩ : Shape).Idx => BitVec.ofNat 32 ((l.along (1 : Fin 2) (π l)) (1 : Fin 2)).val) hj).trans ?_
  show BitVec.ofNat 32 (π (ix2 p ⟨k.val, hk⟩)).val = _
  refine congrArg (fun R => BitVec.ofNat 32 (sortedFrom R (⟨k.val, hk⟩ : Fin b)).val) (funext fun i => funext fun i' => ?_)
  show (gt (x ((ix2 p (⟨k.val, hk⟩ : Fin b)).along (1 : Fin 2) i)) (x ((ix2 p (⟨k.val, hk⟩ : Fin b)).along (1 : Fin 2) i')) == 1#1) = _
  rw [ha, ha]
  exact e i i'

variable (x : Vec Bits S128x32768 .f32) (p : Fin 128)

/-- Row `p`'s magnitudes: each word without its sign bit, as a number. -/
def sizes : Fin 32768 → ℕ := fun j => (IntOp.andi (bitcastToInt (F := Bits) (φ := .f32) x (ix2 p j)) 2147483647#32).toNat

/-- The position at place `k` of row `p` sorted by descending magnitude. -/
def place (k : Fin 32768) : Fin 32768 := sortedFrom (larger (sizes x p)) k

theorem absf_at (j : Fin 32768) :
    Host.absf (F := Bits) (φ := .f32) x (ix2 p j) = IntOp.andi (bitcastToInt (F := Bits) (φ := .f32) x (ix2 p j)) 2147483647#32 :=
  Bits.absf_f32 (x (ix2 p j))

/-- A word without its sign bit is below 2^31. -/
theorem magnitude_lt (w : BitVec 32) : (IntOp.andi w 2147483647#32).toNat < 2 ^ 31 := by
  show (w &&& 2147483647#32).toNat < 2 ^ 31
  rw [BitVec.toNat_and]
  exact Nat.lt_of_le_of_lt Nat.and_le_right (by decide)

/-- Of two words below 2^31 the total order's comparison is that of the numbers. -/
theorem total_gt (a b : BitVec 32) (ha : a.toNat < 2 ^ 31) (hb : b.toNat < 2 ^ 31) :
    (FloatOps.cmpfTotal (F := Bits) (φ := .f32) .gt a b == 1#1) = decide (b.toNat < a.toNat) := by
  have hm : ∀ w : BitVec 32, w.toNat < 2 ^ 31 → w.msb = false := fun w hw => by
    rw [BitVec.msb_eq_decide]
    exact decide_eq_false (by omega)
  rw [cmpfTotal_f32_eq_cmpi_sortableKey, sortableKey_of_msb_false a (hm a ha), sortableKey_of_msb_false b (hm b hb)]
  have h : IntOp.cmpi .sgt a b = 1#1 ↔ b.toNat < a.toNat := sgt_iff ha hb
  show (IntOp.cmpi .sgt a b == 1#1) = _
  by_cases c : b.toNat < a.toNat
  · rw [decide_eq_true c, beq_iff_eq]
    exact h.2 c
  · rw [decide_eq_false c, beq_eq_false_iff_ne]
    exact fun e => c (h.1 e)

/-- The top-k's position at row `p`, place `k`. -/
theorem topK_at (k : Fin 64) :
    (Host.topK S128x64 1 (FloatOps.cmpfTotal (F := Bits) (φ := .f32) .gt) (Host.absf x) sliceFits_S128x32768_S128x64).2 (ix2 p k)
      = BitVec.ofNat 32 (place x p ⟨k.val, by omega⟩).val := by
  have e : ∀ i i' : Fin 32768, (FloatOps.cmpfTotal (F := Bits) (φ := .f32) .gt (Host.absf x (ix2 p i)) (Host.absf x (ix2 p i')) == 1#1)
      = larger (sizes x p) i i' := fun i i' => by
    have h := fun j => absf_at x p j
    refine (total_gt _ _ ?_ ?_).trans ?_
    · rw [h i]; exact magnitude_lt _
    · rw [h i']; exact magnitude_lt _
    · rw [h i, h i']; rfl
  exact topK_pos _ _ _ _ _ e k _

end Cert.Proof
-- ==== Proof.KernelValue.lean ====
/-
  What the kernel's run leaves in the result array: of each row the elements that are `Kept`, and zero elsewhere.
-/
module

public import proofs.«01_k».proof.Proof.Run
public import proofs.«01_k».proof.Proof.BlockValue
public import proofs.«01_k».proof.Proof.RefSort
public import Idealize.ShloMosaic.Lib.Pipeline.ValueKit

@[expose] public section

set_option maxRecDepth 16384

noncomputable section

namespace Cert.Proof

open Cert.Kernel Cert.Kernel.Gen
open Idealize.ShloMosaic hiding ix1 ix2 ix3
open Idealize.ShloMosaic.TcCoe Idealize.ShloMosaic.ValueIdx
open Idealize.SL.Sem

/-- The element of row `p` at position `j` if it is kept, zero if not. -/
def keptAt (x : Vec Bits S128x32768 .f32) (p : Fin 128) (j : Fin 32768) : BitVec 32 :=
  if Kept (sizes x p) j then x (ix2 p j) else 0#32

/-- Of each row the elements that are kept, and zero elsewhere. -/
def keptOnly (x : Vec Bits S128x32768 .f32) : Vec Bits S128x32768 .f32 := fun i => keptAt x (i 0) (i 1)

variable (m : (ℓ : Loc nD τ sig) → Buf (Elt Bits) ℓ) (c : Dev nD)

/-- The argument as launched. -/
abbrev arg : Vec Bits S128x32768 .f32 := m ((c.tc : Thread nD τ).loc main_arg0)

/-- The row of the array at row `r` of block `t`. -/
def rowOf (t : Fin cfg0.N) (r : Fin 32) : Fin 128 := ⟨t.val * 32 + r.val, by
  have : t.val < 4 := t.isLt
  omega⟩

theorem index_in : ∀ t : Fin cfg0.N, win0_0.index t = ![t.val, 0] := by decide +kernel
theorem index_out : ∀ t : Fin cfg0.N, win0_1.index t = ![t.val, 0] := by decide +kernel

theorem emb_in (t : Fin cfg0.N) (r : Fin 32) (j : Fin 32768) : (win0_0.blk t).view.emb (ix2 r j) = ix2 (rowOf t r) j := by
  funext a
  refine Fin.ext ?_
  fin_cases a
  · blk_simp [index_in]
    rfl
  · blk_simp [index_in]

theorem emb_out (t : Fin cfg0.N) (r : Fin 32) (j : Fin 32768) : (win0_1.blk t).view.emb (ix2 r j) = ix2 (rowOf t r) j := by
  funext a
  refine Fin.ext ?_
  fin_cases a
  · blk_simp [index_out]
    rfl
  · blk_simp [index_out]

theorem block_at (t : Fin cfg0.N) (r : Fin 32) (j : Fin 32768) : iblk m c 0 t (ix2 r j) = arg m c (ix2 (rowOf t r) j) :=
  congrArg (arg m c) (emb_in t r j)

theorem mags_block (t : Fin cfg0.N) (r : Fin 32) : mags (iblk m c 0 t) r = sizes (arg m c) (rowOf t r) := by
  funext j
  show (IntOp.andi (bitcastToInt (F := Bits) (φ := .f32) (iblk m c 0 t) (ix2 r j)) 2147483647#32).toNat
    = (IntOp.andi (bitcastToInt (F := Bits) (φ := .f32) (arg m c) (ix2 (rowOf t r) j)) 2147483647#32).toNat
  exact congrArg (fun w : BitVec 32 => (IntOp.andi w 2147483647#32).toNat) (block_at m c t r j)

theorem out_array (hp : ∀ p, (cnt fun j => sizes (arg m c) p j = 2147483647) < 64) : (dats m 0 c).arrAt 1 cfg0.N = keptOnly (arg m c) := by
  refine (dats m 0 c).arrAt_eq_of_covers 1 _ (by decide +kernel) fun t hf y => ?_
  blk_simp
  rw [after_out]
  obtain ⟨r, j, rfl⟩ : ∃ (r : Fin 32) (j : Fin 32768), y = ix2 r j := ⟨y 0, y 1, by
    funext a
    fin_cases a <;> rfl⟩
  have hr := blockOut_at (iblk m c 0 t) r (by rw [mags_block]; exact hp _) j
  rw [mags_block, block_at] at hr
  exact hr.trans (congrArg (keptOnly (arg m c)) (emb_out t r j)).symm

end Cert.Proof
-- ==== Proof.RefGather.lean ====
/-
  The reference's `take_along_axis`: a gather that, row by row, reads the operand at the column its index array names.
-/
module

public import proofs.«01_k».proof.Proof.RefSort

@[expose] public section

noncomputable section

namespace Cert.Proof

open Cert.Reference Cert.Reference.Gen
open Idealize.ShloMosaic hiding ix1 ix2 ix3
open Idealize.ShloMosaic.ValueIdx

/-- The gather's axes: rows go together, the index array names the column. -/
abbrev takeAxes : GatherDims S128x32768 S128x64x1 S128x64 := gather_S128x32768_S128x64x1_S128x64_n_1_0_0_1_2_11

/-- A word below 2^31 read as a signed number. -/
theorem toInt_small (n : ℕ) (h : n < 2 ^ 31) : (BitVec.ofNat 32 n).toInt.toNat = n := by
  have e : (BitVec.ofNat 32 n).toNat = n := by
    rw [BitVec.toNat_ofNat]
    omega
  rw [BitVec.toInt_eq_toNat_of_lt (by omega), e]
  exact Int.toNat_natCast n

/-- Where the index array holds a column number, the gather reads that column of the same row. -/
theorem gather_at {α : Type} (x : S128x32768.Idx → α) (idx : IVec S128x64x1 32) (p : Fin 128) (k : Fin 64) (c : Fin 32768)
    (h : idx (ix3 p k 0) = BitVec.ofNat 32 c.val) : Host.gather takeAxes x idx (ix2 p k) = x (ix2 p c) := by
  unfold Host.gather
  refine congrArg x (funext fun a => Fin.ext ?_)
  have h01 : a = 0 ∨ a = 1 := by
    fin_cases a
    · exact Or.inl rfl
    · exact Or.inr rfl
  show takeAxes.start (ix2 p k) idx a + takeAxes.batchCoord (ix2 p k) a + takeAxes.offCoord (ix2 p k) a = _
  rcases h01 with rfl | rfl
  · rw [takeAxes.start_batching _ _ _ (List.mem_singleton.2 rfl),
      takeAxes.offCoord_eq_zero _ _ (fun h' => ((takeAxes.mem_sKept _).1 h').2 (List.mem_singleton.2 rfl))]
    unfold GatherDims.batchCoord
    rw [dif_pos (show (0 : Fin 2) ∈ takeAxes.operandBatchingDims from List.mem_singleton.2 rfl)]
    show 0 + p.val + 0 = p.val
    omega
  · rw [takeAxes.batchCoord_eq_zero _ _ (fun h' => absurd (List.mem_singleton.1 h') (by decide)),
      takeAxes.offCoord_eq_zero _ _ (fun h' => ((takeAxes.mem_sKept _).1 h').1 (List.mem_singleton.2 rfl))]
    unfold GatherDims.start
    rw [dif_pos (show (1 : Fin 2) ∈ takeAxes.startIndexMap from List.mem_singleton.2 rfl)]
    have hsi : takeAxes.siIdx (ix2 p k) ⟨List.idxOf (1 : Fin 2) takeAxes.startIndexMap,
        List.idxOf_lt_length_iff.2 (List.mem_singleton.2 rfl)⟩ = ix3 p k 0 := by
      funext b
      refine Fin.ext ?_
      match b with
      | ⟨0, _⟩ => rfl
      | ⟨1, _⟩ => rfl
      | ⟨2, _⟩ => rfl
    rw [hsi, h, toInt_small _ (by omega)]
    show min c.val 32767 + 0 + 0 = c.val
    omega

end Cert.Proof
-- ==== Proof.RefValue.lean ====
/-
  What the reference returns: of each row the elements that are `Kept`, and zero elsewhere.
-/
module

public import proofs.«01_k».proof.Proof.RefGather
public import Idealize.ShloMosaic.Lib.ScatterToDense.RefScatter
public import Idealize.ShloMosaic.Lib.ReduceAll
public import Idealize.ShloMosaic.Lib.Pipeline.Value

@[expose] public section

noncomputable section

namespace Cert.Proof

open Cert.Reference Cert.Reference.Gen
open Idealize.ShloMosaic hiding ix1 ix2 ix3
open Idealize.ShloMosaic.ValueIdx Idealize.ShloMosaic.WordCmp

variable (x : Vec Bits S128x32768 .f32) (q : IVec S128x64 32)

/-- The positions, with a negative one counted from the row's end. -/
def wrapped : IVec S128x64 32 :=
  select (cmpi .slt q (broadcastInDim S128x64 ![] bcast_S_S128x64 (constantI S_ 32 0#32)))
    (addi q (broadcastInDim S128x64 ![] bcast_S_S128x64 (constantI S_ 32 32768#32))) q

/-- The positions as the gather's index array. -/
def column : IVec S128x64x1 32 := shapeCast _ (wrapped q) shapeCasts_S128x64_S128x64x1

/-- Whether a position lies in the row. -/
def inRow : IVec S128x64 1 :=
  Host.reduce IntOp.andi (andi (cmpi .sge (column q) (broadcastInDim S128x64x1 ![] bcast_S_S128x64x1 (constantI S_ 32 0#32)))
    (cmpi .sle (column q) (broadcastInDim S128x64x1 ![0, 1, 2] bcast_S1x1x1_S128x64x1_0_1_2 (broadcastInDim S1x1x1 ![2] bcast_S1_S1x1x1_2 (constantI S1 32 32767#32)))))
    (constantI S_ 1 1#1) reducesTo_S128x64x1_S128x64_d2 h_S_

/-- The elements read at the positions. -/
def taken : Vec Bits S128x64 .f32 :=
  select (inRow q) (Host.gather takeAxes x (column q)) (broadcastInDim (α := Elt Bits .f32) S128x64 ![] bcast_S_S128x64 (constant (F := Bits) S_ .f32 0x7FC00000#32))

/-- The row numbers, as a column, with a negative one counted from the end. -/
def rowNumber : IVec S128x1 32 :=
  select (cmpi .slt (broadcastInDim S128x1 ![0] bcast_S128_S128x1_0 (iotaInDim S128 32 0)) (broadcastInDim S128x1 ![] bcast_S_S128x1 (constantI S_ 32 0#32)))
    (addi (broadcastInDim S128x1 ![0] bcast_S128_S128x1_0 (iotaInDim S128 32 0)) (broadcastInDim S128x1 ![] bcast_S_S128x1 (constantI S_ 32 128#32)))
    (broadcastInDim S128x1 ![0] bcast_S128_S128x1_0 (iotaInDim S128 32 0))

/-- The row numbers, one for each position. -/
def rowColumn : IVec S128x64x1 32 :=
  broadcastInDim S128x64x1 ![0, 1] bcast_S128x64_S128x64x1_0_1 (broadcastInDim S128x64 ![0, 1] bcast_S128x1_S128x64_0_1 rowNumber)

/-- The positions, with an axis added. -/
def positionColumn : IVec S128x64x1 32 := broadcastInDim S128x64x1 ![0, 1] bcast_S128x64_S128x64x1_0_1 (wrapped q)

/-- The row numbers and positions the scatter writes at. -/
def target : IVec S128x64x2 32 :=
  concatenate S128x64x2 2 [⟨S128x64x1, rowColumn⟩, ⟨S128x64x1, positionColumn q⟩] concatenates_S128x64x1_S128x64x1_S128x64x2_d2

/-- The reference's result when its top-k returns positions `q`. -/
def scattered : Vec Bits S128x32768 .f32 :=
  Host.scatter scatter_S128x32768_S128x64x2_S128x64_n_01_01_2 (fun _ b => b) (broadcastInDim (α := Elt Bits .f32) S128x32768 ![] bcast_S_S128x32768 (constant (F := Bits) S_ .f32 0x00000000#32))
    (target q) (taken x q)

variable (f : Fin 128 → Fin 64 → Fin 32768) (hq : ∀ p k, q (ix2 p k) = BitVec.ofNat 32 (f p k).val)

/-- A small natural number as a word. -/
theorem toNat_small (n : ℕ) (h : n < 2 ^ 31) : (BitVec.ofNat 32 n).toNat = n := by
  rw [BitVec.toNat_ofNat]
  omega

/-- A word below 2^31 is not counted from the end. -/
theorem wrap_small (n : ℕ) (h : n < 2 ^ 31) (a : BitVec 32) :
    Scalar.select (IntOp.cmpi .slt (BitVec.ofNat 32 n) 0#32) a (BitVec.ofNat 32 n) = BitVec.ofNat 32 n := by
  have hn : ¬ IntOp.cmpi .slt (BitVec.ofNat 32 n) 0#32 = 1#1 := fun c => by
    have := (slt_iff (by rw [toNat_small n h]; exact h) (by decide)).1 c
    exact absurd this (Nat.not_lt_zero _)
  exact if_neg hn

include hq

theorem wrapped_at (p : Fin 128) (k : Fin 64) : wrapped q (ix2 p k) = BitVec.ofNat 32 (f p k).val := by
  show Scalar.select (IntOp.cmpi .slt (q (ix2 p k)) 0#32) (IntOp.addi (q (ix2 p k)) 32768#32) (q (ix2 p k)) = _
  rw [hq]
  exact wrap_small _ (by omega) _

theorem column_at (p : Fin 128) (k : Fin 64) (z : Fin 1) : column q (ix3 p k z) = BitVec.ofNat 32 (f p k).val := by
  refine (shapeCast_apply _ _ _ (ix2 p k) ?_).trans (wrapped_at q f hq p k)
  rw [Shape.rowMajor_val_two, Shape.rowMajor_val_three]
  show p.val * 64 + k.val = (p.val * 64 + k.val) * 1 + z.val
  omega

theorem inRow_at (j : S128x64.Idx) : inRow q j = 1#1 := by
  refine Host.reduce_andi_one _ _ _ _ j rfl fun i => ?_
  have hi : column q i = BitVec.ofNat 32 (f (i 0) (i 1)).val := by
    rw [← column_at q f hq (i 0) (i 1) (i 2)]
    refine congrArg (column q) (funext fun c => ?_)
    fin_cases c <;> rfl
  have hlt := (f (i 0) (i 1)).isLt
  show IntOp.andi (IntOp.cmpi .sge (column q i) 0#32) (IntOp.cmpi .sle (column q i) 32767#32) = 1#1
  rw [hi]
  refine (and_iff _ _).2 ⟨(sge_iff ?_ ?_).2 ?_, (sge_iff ?_ ?_).2 ?_⟩ <;>
    first | decide | (rw [toNat_small _ (by omega)]; first | omega | (show _ ≤ 32767; omega) | (show 0 ≤ _; omega))

theorem taken_at (p : Fin 128) (k : Fin 64) : taken x q (ix2 p k) = x (ix2 p (f p k)) := by
  unfold taken
  rw [select_at, inRow_at q f hq, gather_at x (column q) p k (f p k) (column_at q f hq p k 0)]
  exact if_pos rfl

omit hq in
theorem rowNumber_at (p : Fin 128) : rowNumber (ix2 p 0) = BitVec.ofNat 32 p.val :=
  wrap_small p.val (by omega) _

omit hq in
theorem target_row (p : Fin 128) (k : Fin 64) : target q (ix3 p k (0 : Fin 2)) = BitVec.ofNat 32 p.val := by
  have e : rowColumn (ix3 p k 0) = BitVec.ofNat 32 p.val :=
    (congrArg rowNumber (by funext c; fin_cases c <;> rfl)).trans (rowNumber_at p)
  have hb : ∀ b : Fin 3, (ix3 p k (0 : Fin 1) b).val = (ix3 p k (0 : Fin 2) b).val := fun b => by
    fin_cases b <;> rfl
  unfold target
  exact (concatenate_pair_apply_left (t := S128x64x2) (s₁ := S128x64x1) (s₂ := S128x64x1) (2 : Fin 3) rowColumn (positionColumn q)
    concatenates_S128x64x1_S128x64x1_S128x64x2_d2 (ix3 p k 0) rfl (ix3 p k 0) hb).trans e

theorem target_column (p : Fin 128) (k : Fin 64) : target q (ix3 p k (1 : Fin 2)) = BitVec.ofNat 32 (f p k).val := by
  have e : positionColumn q (ix3 p k 0) = BitVec.ofNat 32 (f p k).val :=
    (congrArg (wrapped q) (by funext c; fin_cases c <;> rfl)).trans (wrapped_at q f hq p k)
  have hb : ∀ b : Fin 3, b ≠ 2 → (ix3 p k (0 : Fin 1) b).val = (ix3 p k (1 : Fin 2) b).val := fun b h => by
    fin_cases b
    · rfl
    · rfl
    · exact absurd rfl h
  unfold target
  exact (concatenate_pair_apply_right (t := S128x64x2) (s₁ := S128x64x1) (s₂ := S128x64x1) (2 : Fin 3) rowColumn (positionColumn q)
    concatenates_S128x64x1_S128x64x1_S128x64x2_d2 (ix3 p k 1) rfl rfl (ix3 p k 0) hb rfl).trans e

omit hq in
/-- Writing, candidate by candidate, the element of the candidate's own column leaves that element in the candidates'
    columns and zero in the others. -/
theorem written (v : Fin 32768 → BitVec 32) (g : ℕ → Fin 32768) (j : Fin 32768) (n : ℕ) :
    ScatterToDense.GS (fun k => BitVec.ofNat 32 (g k).val) (fun k => v (g k)) 0#32 j.val n = if ∃ k, k < n ∧ g k = j then v j else 0#32 := by
  induction n with
  | zero =>
    rw [if_neg (fun ⟨k, hk, _⟩ => absurd hk (Nat.not_lt_zero k))]
    rfl
  | succ n ih =>
    rw [ScatterToDense.GS_succ, toNat_small _ (by omega), ih]
    by_cases c : g n = j
    · rw [if_pos (by rw [c]), if_pos ⟨n, by omega, c⟩, c]
    · rw [if_neg (fun h => c (Fin.ext h.symm))]
      refine if_congr ⟨fun ⟨k, hk, e⟩ => ⟨k, by omega, e⟩, fun ⟨k, hk, e⟩ => ⟨k, ?_, e⟩⟩ rfl rfl
      have : k ≠ n := fun h => c (h ▸ e)
      omega

/-- The result holds the elements at the positions, and zero elsewhere. -/
theorem scattered_at (p : Fin 128) (j : Fin 32768) :
    scattered x q (ix2 p j) = if ∃ k, f p k = j then x (ix2 p j) else (0#32 : BitVec 32) := by
  let g : Fin 128 → ℕ → Fin 32768 := fun p k => f p ⟨k % 64, Nat.mod_lt _ (by decide)⟩
  have hg : ∀ p (k : Fin 64), g p k.val = f p k := fun p k => congrArg (f p) (Fin.ext (Nat.mod_eq_of_lt k.isLt))
  refine (ScatterToDense.scatter_eq_GS _ rfl rfl rfl (by decide) (by decide) _ _ _ (fun p k => BitVec.ofNat 32 (g p k).val)
    (fun p k => x (ix2 p (g p k))) (target_row q) (fun p k => ?_) (fun p k => ?_) p j).trans ?_
  · rw [hg]; exact target_column q f hq p k
  · rw [hg]; exact taken_at x q f hq p k
  · refine (written (fun j => x (ix2 p j)) (g p) j 64).trans (if_congr ⟨fun ⟨k, hk, e⟩ => ⟨_, e⟩, fun ⟨k, e⟩ => ⟨k.val, k.isLt, ?_⟩⟩ rfl rfl)
    rw [hg]; exact e

omit hq in
theorem place_def (p : Fin 128) (k : Fin 32768) : place x p k = sortedFrom (larger (sizes x p)) k := rfl

/-- The positions at the first 64 places. -/
def first (p : Fin 128) (k : Fin 64) : Fin 32768 := place x p ⟨k.val, by omega⟩

omit hq in
/-- The reference's result: the kept elements of each row, and zero elsewhere. -/
theorem reference_at (p : Fin 128) (j : Fin 32768) :
    scattered x (Host.topK S128x64 1 (FloatOps.cmpfTotal (F := Bits) (φ := .f32) .gt) (Host.absf x) sliceFits_S128x32768_S128x64).2 (ix2 p j)
      = if Kept (sizes x p) j then x (ix2 p j) else (0#32 : BitVec 32) := by
  rw [scattered_at x _ (first x) (topK_at x) p j]
  refine if_congr ⟨?_, fun h => ?_⟩ rfl rfl
  · rintro ⟨k, rfl⟩
    rw [first, place_def]
    exact (kept_sorted (sizes x p) _).2 k.isLt
  · obtain ⟨i, rfl⟩ := sortedFrom_surjective (larger (sizes x p)) j
    refine ⟨⟨i.val, (kept_sorted (sizes x p) i).1 h⟩, ?_⟩
    rw [first, place_def]

end Cert.Proof
-- ==== Proof.Few.lean ====
/-
  The precondition, row by row: fewer than 64 words of a row have all bits but the sign's set.
-/
module

public import proofs.«01_k».proof.Proof.RefSort
public import proofs.«01_k».proof.Proof.Gen.Pre_full_payload_nans_fit
public import Idealize.ShloMosaic.Lib.ReduceAll
public import Idealize.ShloMosaic.Lib.StableHlo.Predicate
public import Idealize.ShloMosaic.Lib.Routing.Ops

@[expose] public section

noncomputable section

namespace Cert.Proof

open Cert.Pre_full_payload_nans_fit Cert.Pre_full_payload_nans_fit.Gen
open Idealize.ShloMosaic hiding ix1 ix2 ix3
open Idealize.ShloMosaic.ValueIdx

variable (x : Vec Bits S128x32768 .f32)

/-- Where a word has all bits but the sign's set. -/
def fullMask : IVec S128x32768 1 :=
  cmpi .eq (andi (bitcastToInt (F := Bits) (φ := .f32) x) (broadcastInDim S128x32768 ![] Facts.bcast_S_S128x32768 (constantI S_ 32 2147483647#32)))
    (broadcastInDim S128x32768 ![] Facts.bcast_S_S128x32768 (constantI S_ 32 2147483647#32))

/-- How many such words each row has. -/
def fullCount : IVec S128 32 :=
  Host.reduce IntOp.addi (extui 32 (fullMask x) Facts.natLt_1_32) (constantI S_ 32 0#32) Facts.reducesTo_S128x32768_S128_d1 Facts.h_S_

theorem fullMask_at (p : Fin 128) (j : Fin 32768) : fullMask x (ix2 p j) = 1#1 ↔ sizes x p j = 2147483647 :=
  eq_iff _ _

theorem fullCount_at (p : Fin 128) : (fullCount x (ix1 p)).toNat = cnt fun j => sizes x p j = 2147483647 := by
  refine (StableHlo.Predicate.toNat_reduce_count_cols (by decide) (fullMask x) _ _ _ (ix1 p)).trans ?_
  refine congrArg Finset.card (Finset.filter_congr fun j _ => ?_)
  rw [Routing.ij_eq_ix2]
  exact fullMask_at x p j

theorem few (h : fn (F := Bits) x = fun _ => 1#1) (p : Fin 128) : (cnt fun j => sizes x p j = 2147483647) < 64 := by
  haveI : Subsingleton S_.Idx := ⟨fun a b => funext fun i => i.elim0⟩
  have h0 : Host.reduce IntOp.andi (cmpi .slt (fullCount x) (broadcastInDim S128 ![] Facts.bcast_S_S128 (constantI S_ 32 64#32)))
      (constantI S_ 1 1#1) Facts.reducesTo_S128_S_d0 Facts.h_S_ (fun i => i.elim0) = 1#1 := congrFun h _
  have h1 : IntOp.cmpi .slt (fullCount x (ix1 p)) 64#32 = 1#1 := Host.reduce_andi_all _ _ _ _ _ h0 (ix1 p)
  have hle := cnt_le fun j => sizes x p j = 2147483647
  have h2 := (slt_iff (by rw [fullCount_at]; omega) (by decide)).1 h1
  rw [fullCount_at] at h2
  exact h2

end Cert.Proof
-- ==== Proof.lean ====
/-
  The certificate of the blockwise top-64 kernel: the frames of both programs, and the equality of their results bit for
  bit when fewer than 64 words of each row have all bits but the sign's set. Both results hold, of each row, the elements
  that are `Kept` and zero elsewhere: `Proof/KernelValue.lean` shows it of the kernel, `Proof/RefValue.lean` of the
  reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Run
public import proofs.«01_k».proof.Proof.Gen.Pre_full_payload_nans_fit
public import proofs.«01_k».proof.Proof.Run
public import proofs.«01_k».proof.Proof.KernelValue
public import proofs.«01_k».proof.Proof.RefValue
public import proofs.«01_k».proof.Proof.Few
public import Idealize.ShloMosaic.Adequacy
public import Idealize.ShloMosaic.Init
public import Idealize.ShloMosaic.Lib.Quiescent

@[expose] public section

noncomputable section

namespace Cert.Proof

open Idealize.ShloMosaic hiding ix1 ix2 ix3
open Idealize.ShloMosaic.TcCoe Idealize.ShloMosaic.ValueIdx
open Idealize.SL.Sem Cert.Kernel

/-- The kernel's argument ends as it was and every semaphore counter at zero. -/
theorem kernel_frame (m : (ℓ : Loc nD τ sig) → Buf (Elt Bits) ℓ) (g : Dev nD → PrngReg) :
    θ_run (defs (F := Bits)) (onTc (τ := τ) (main (F := Bits))) ⟨m, fun _ => 0, g⟩ (fun r =>
      (∀ c : Dev nD, r.2.mem ((c.tc : Thread nD τ).loc main_arg0) = m ((c.tc : Thread nD τ).loc main_arg0)) ∧ r.2.sem = fun _ => 0) :=
  θ_run_with_sems (Gen.frame_of m g (dats m) fun _ _ => rfl) (kernel_run m g)

/-- The reference's argument ends as it was and every semaphore counter at zero. -/
theorem reference_frame (m : (ℓ : Loc Reference.nD Reference.τ Reference.sig) → Buf (Elt Bits) ℓ) (g : Dev Reference.nD → PrngReg) :
    θ_run (Reference.defs (F := Bits)) (onTc (τ := Reference.τ) (Reference.main (F := Bits))) ⟨m, fun _ => 0, g⟩ (fun r =>
      (∀ c : Dev Reference.nD, r.2.mem ((c.tc : Thread Reference.nD Reference.τ).loc Reference.main_arg0)
        = m ((c.tc : Thread Reference.nD Reference.τ).loc Reference.main_arg0)) ∧ r.2.sem = fun _ => 0) :=
  (θ_run Reference.defs _ _).mono (fun r h => ⟨fun c => (h c).2, sem_eq_zero_of_no_sems (by decide) r.2⟩)
    (Reference.Value.run (F := Bits) m g)

/-- The reference's composed term is the elements that are kept, and zero elsewhere. -/
theorem reference_kept (x : Vec Bits S128x32768 .f32) :
    scattered x (Host.topK Reference.S128x64 1 (FloatOps.cmpfTotal (F := Bits) (φ := .f32) .gt) (Host.absf x)
      Reference.Facts₀.sliceFits_S128x32768_S128x64).2 = keptOnly x := by
  funext i
  obtain ⟨p, j, rfl⟩ : ∃ (p : Fin 128) (j : Fin 32768), i = ix2 p j := ⟨i 0, i 1, by
    funext a
    fin_cases a <;> rfl⟩
  exact reference_at x p j

theorem equal_results : Cert.bitexact_Kernel_Reference_pre_full_payload_nans_fit := by
  intro m g m' g' hpre hagree
  refine ⟨fun c => keptOnly (arg m c), ?_, ?_⟩
  · exact (θ_run defs _ _).mono (fun r h c => ⟨((h.1 c).1 1).trans (out_array m c (few _ (hpre c))),
      ((h.1 c).1 0).trans (((dats m 0 c).arrAt_in 0 rfl _).trans (Gen.V_main_arg0 m c))⟩) (kernel_run m g)
  · refine (θ_run Reference.defs _ _).mono (fun r h c => ⟨(h c).1.trans ?_, (h c).2⟩) (Reference.Value.run (F := Bits) m' g')
    rw [hagree c]
    exact reference_kept (arg m c)

theorem claim : Cert.Claim :=
  ⟨Cert.Kernel.Gen.facts, Cert.Reference.Gen.facts, Cert.Pre_full_payload_nans_fit.Gen.facts,
    fun m g _ => kernel_frame m g, fun m g _ => kernel_frame m g, fun m g _ => reference_frame m g, fun m g _ => reference_frame m g,
    equal_results⟩

end Cert.Proof

end
